-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v34)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_values.lean ====
abbrev S32768x9216 : Shape := ⟨2, ![32768, 9216]⟩
abbrev S4x64 : Shape := ⟨2, ![4, 64]⟩
abbrev S128 : Shape := ⟨1, ![128]⟩
abbrev S32768x1024 : Shape := ⟨2, ![32768, 1024]⟩
abbrev S_ : Shape := ⟨0, ![]⟩

class Facts : Prop where
  slices_S32768x9216_S32768x1024_0_8192 : S32768x9216.Slices ![0, 8192] S32768x1024
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S32768x9216 .bf16) (main_arg1 : FVec F S4x64 .f32) (main_arg2 : FVec F S128 .f32) : IVec S_ 1 :=
  let main_v0 : FVec F S32768x1024 .bf16 := (extractStridedSlice S32768x1024 ![0, 8192] · slices_S32768x9216_S32768x1024_0_8192) main_arg0
  let main_v1 : FVec F S32768x1024 .bf16 := Host.absf main_v0
  let main_cst : FVec F S_ .bf16 := constant S_ .bf16 0x7F80#16
  let main_v2 : FVec F S32768x1024 .bf16 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S4x64 .f32 := Host.absf main_arg1
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  main_v9
-- ==== Kernel.lean ====
abbrev S32768x9216 : Shape := ⟨2, ![32768, 9216]⟩
abbrev S4x64 : Shape := ⟨2, ![4, 64]⟩
abbrev S128 : Shape := ⟨1, ![128]⟩
abbrev S1x128 : Shape := ⟨2, ![1, 128]⟩
abbrev S32768x1024 : Shape := ⟨2, ![32768, 1024]⟩
abbrev S2048x128 : Shape := ⟨2, ![2048, 128]⟩
abbrev S8192x128 : Shape := ⟨2, ![8192, 128]⟩
abbrev S4096x128 : Shape := ⟨2, ![4096, 128]⟩
abbrev S4096x256 : Shape := ⟨2, ![4096, 256]⟩
abbrev S2x4096x512 : Shape := ⟨3, ![2, 4096, 512]⟩
abbrev S512x128 : Shape := ⟨2, ![512, 128]⟩
abbrev S4096x512 : Shape := ⟨2, ![4096, 512]⟩
abbrev S1x4096x512 : Shape := ⟨3, ![1, 4096, 512]⟩
abbrev S512x256 : Shape := ⟨2, ![512, 256]⟩
abbrev S4096 : Shape := ⟨1, ![4096]⟩
abbrev S4096x1 : Shape := ⟨2, ![4096, 1]⟩
abbrev S1x64 : Shape := ⟨2, ![1, 64]⟩
abbrev S1 : Shape := ⟨1, ![1]⟩
abbrev S1x1 : Shape := ⟨2, ![1, 1]⟩
abbrev S2048x256 : Shape := ⟨2, ![2048, 256]⟩
abbrev S2048 : Shape := ⟨1, ![2048]⟩
abbrev S2048x1 : Shape := ⟨2, ![2048, 1]⟩

abbrev nBuf : Space → Nat
  | .hbm => 5
  | .vmem => 14
  | .smem => 0
  | _ => 0

abbrev bufTy : (tb : Table) → Fin (tcTables nBuf tb) → BufTy
  | .hbm, ⟨0, _⟩ => ⟨S32768x9216, .bf16⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S32768x1024, .bf16⟩
  | .local _ .vmem, ⟨0, _⟩ => ⟨S4x64, .f32⟩
  | .local _ .vmem, ⟨1, _⟩ => ⟨S1x128, .f32⟩
  | .local _ .vmem, ⟨2, _⟩ => ⟨S2048x128, .bf16⟩
  | .local _ .vmem, ⟨3, _⟩ => ⟨S2048x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S2048x128, .bf16⟩
  | .local _ .vmem, ⟨9, _⟩ => ⟨S2048x128, .bf16⟩
  | .local _ .vmem, ⟨10, _⟩ => ⟨S4096x128, .bf16⟩
  | .local _ .vmem, ⟨11, _⟩ => ⟨S4096x128, .f32⟩
  | .local _ .vmem, ⟨12, _⟩ => ⟨S4096x256, .f32⟩
  | .local _ .vmem, ⟨13, _⟩ => ⟨S2x4096x512, .f32⟩
  | _, _ => ⟨S32768x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 4], ![false, false, false]⟩

def k0_mult1 : BitVec 32 :=
  let c0_i32 : BitVec 32 := 0#32
  c0_i32
@[reducible] def k0_t1_loop : Scf.Loop 32 :=
  let c0_i32_18 : BitVec 32 := 0#32
  let c8_i32 : BitVec 32 := 8#32
  let v34 : BitVec 32 := Scalar.addi c0_i32_18 c8_i32
  let c1_i32 : BitVec 32 := 1#32
  ⟨c0_i32_18, v34, c1_i32⟩
def k0_mult2 (k0_t1 : Fin k0_t1_loop.trips) : BitVec 32 :=
  let c2_i32 : BitVec 32 := 2#32
  let c0_i32_18 : BitVec 32 := 0#32
  let c1_i32 : BitVec 32 := 1#32
  let arg13 : BitVec 32 := Scf.iv c0_i32_18 c1_i32 k0_t1
  let v80 : BitVec 32 := Scalar.muli c2_i32 arg13
  let c1_i32_37 : BitVec 32 := 1#32
  let v81 : BitVec 32 := Scalar.addi v80 c1_i32_37
  let c512_i32 : BitVec 32 := 512#32
  let v82 : BitVec 32 := Scalar.muli v81 c512_i32
  v82
def k0_off1 (k0_t1 : Fin k0_t1_loop.trips) : Fin 2 → Nat :=
  let c2_i32 : BitVec 32 := 2#32
  let c0_i32_18 : BitVec 32 := 0#32
  let c1_i32 : BitVec 32 := 1#32
  let arg13 : BitVec 32 := Scf.iv c0_i32_18 c1_i32 k0_t1
  let v80 : BitVec 32 := Scalar.muli c2_i32 arg13
  let c1_i32_37 : BitVec 32 := 1#32
  let v81 : BitVec 32 := Scalar.addi v80 c1_i32_37
  let c512_i32 : BitVec 32 := 512#32
  let v82 : BitVec 32 := Scalar.muli v81 c512_i32
  let v83 : BitVec 32 := v82
  let v85 : Index := Scalar.indexCast v83
  let c0_40 : Index := 0#32
  ![v85.toNat, 0]
def k0_mult3 (k0_t1 : Fin k0_t1_loop.trips) : BitVec 32 :=
  let c2_i32_44 : BitVec 32 := 2#32
  let c0_i32_18 : BitVec 32 := 0#32
  let c1_i32 : BitVec 32 := 1#32
  let arg13 : BitVec 32 := Scf.iv c0_i32_18 c1_i32 k0_t1
  let v91 : BitVec 32 := Scalar.muli c2_i32_44 arg13
  let c512_i32_45 : BitVec 32 := 512#32
  let v92 : BitVec 32 := Scalar.muli v91 c512_i32_45
  v92
def k0_off2 (k0_t1 : Fin k0_t1_loop.trips) : Fin 2 → Nat :=
  let c2_i32_44 : BitVec 32 := 2#32
  let c0_i32_18 : BitVec 32 := 0#32
  let c1_i32 : BitVec 32 := 1#32
  let arg13 : BitVec 32 := Scf.iv c0_i32_18 c1_i32 k0_t1
  let v91 : BitVec 32 := Scalar.muli c2_i32_44 arg13
  let c512_i32_45 : BitVec 32 := 512#32
  let v92 : BitVec 32 := Scalar.muli v91 c512_i32_45
  let v93 : BitVec 32 := v92
  let v94 : Index := Scalar.indexCast v93
  let c0_46 : Index := 0#32
  ![v94.toNat, 0]
def k0_mult4 (k0_t1 : Fin k0_t1_loop.trips) : BitVec 32 :=
  let c2_i32_60 : BitVec 32 := 2#32
  let c0_i32_18 : BitVec 32 := 0#32
  let c1_i32 : BitVec 32 := 1#32
  let arg13 : BitVec 32 := Scf.iv c0_i32_18 c1_i32 k0_t1
  let v131 : BitVec 32 := Scalar.muli c2_i32_60 arg13
  let c2_i32_61 : BitVec 32 := 2#32
  let v132 : BitVec 32 := Scalar.addi v131 c2_i32_61
  let c15_i32 : BitVec 32 := 15#32
  let v133 : BitVec 32 := Scalar.minsi v132 c15_i32
  let c512_i32_62 : BitVec 32 := 512#32
  let v134 : BitVec 32 := Scalar.muli v133 c512_i32_62
  v134
def k0_off3 (k0_t1 : Fin k0_t1_loop.trips) : Fin 2 → Nat :=
  let c2_i32_60 : BitVec 32 := 2#32
  let c0_i32_18 : BitVec 32 := 0#32
  let c1_i32 : BitVec 32 := 1#32
  let arg13 : BitVec 32 := Scf.iv c0_i32_18 c1_i32 k0_t1
  let v131 : BitVec 32 := Scalar.muli c2_i32_60 arg13
  let c2_i32_61 : BitVec 32 := 2#32
  let v132 : BitVec 32 := Scalar.addi v131 c2_i32_61
  let c15_i32 : BitVec 32 := 15#32
  let v133 : BitVec 32 := Scalar.minsi v132 c15_i32
  let c512_i32_62 : BitVec 32 := 512#32
  let v134 : BitVec 32 := Scalar.muli v133 c512_i32_62
  let v135 : BitVec 32 := v134
  let v137 : Index := Scalar.indexCast v135
  let c0_65 : Index := 0#32
  ![v137.toNat, 0]
def k0_mult5 (k0_t1 : Fin k0_t1_loop.trips) : BitVec 32 :=
  let c2_i32_70 : BitVec 32 := 2#32
  let c0_i32_18 : BitVec 32 := 0#32
  let c1_i32 : BitVec 32 := 1#32
  let arg13 : BitVec 32 := Scf.iv c0_i32_18 c1_i32 k0_t1
  let v143 : BitVec 32 := Scalar.muli c2_i32_70 arg13
  let c1_i32_71 : BitVec 32 := 1#32
  let v144 : BitVec 32 := Scalar.addi v143 c1_i32_71
  let c512_i32_72 : BitVec 32 := 512#32
  let v145 : BitVec 32 := Scalar.muli v144 c512_i32_72
  v145
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S32768x9216 : Shape := ⟨2, ![32768, 9216]⟩
abbrev S4x64 : Shape := ⟨2, ![4, 64]⟩
abbrev S128 : Shape := ⟨1, ![128]⟩
abbrev S32768x1024 : Shape := ⟨2, ![32768, 1024]⟩
abbrev S4x8192x8x2x64 : Shape := ⟨5, ![4, 8192, 8, 2, 64]⟩
abbrev S4x8192x8x128 : Shape := ⟨4, ![4, 8192, 8, 128]⟩
abbrev S1x64 : Shape := ⟨2, ![1, 64]⟩
abbrev S64 : Shape := ⟨1, ![64]⟩
abbrev S_ : Shape := ⟨0, ![]⟩
abbrev S4x8x2x8192x8192 : Shape := ⟨5, ![4, 8, 2, 8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8x128x8192 : Shape := ⟨4, ![4, 8, 128, 8192]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S32768x9216, .bf16⟩
  | .hbm, ⟨1, _⟩ => ⟨S4x64, .f32⟩
  | .hbm, ⟨2, _⟩ => ⟨S128, .f32⟩
  | .hbm, ⟨3, _⟩ => ⟨S32768x1024, .bf16⟩
  | .hbm, ⟨4, _⟩ => ⟨S32768x1024, .f32⟩
  | .hbm, ⟨5, _⟩ => ⟨S4x8192x8x2x64, .f32⟩
  | .hbm, ⟨6, _⟩ => ⟨S32768x1024, .bf16⟩
  | .hbm, ⟨7, _⟩ => ⟨S32768x1024, .f32⟩
  | .hbm, ⟨8, _⟩ => ⟨S4x8192x8x2x64, .f32⟩
  | .hbm, ⟨9, _⟩ => ⟨S32768x1024, .bf16⟩
  | .hbm, ⟨10, _⟩ => ⟨S32768x1024, .f32⟩
  | .hbm, ⟨11, _⟩ => ⟨S4x8192x8x128, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x8x2x8192x8192, .f32⟩
  | .hbm, ⟨32, _⟩ => ⟨S_, .f32⟩
  | .hbm, ⟨33, _⟩ => ⟨S_, .f32⟩
  | .hbm, ⟨34, _⟩ => ⟨S4x8x2x8192x8192, .f32⟩
  | .hbm, ⟨35, _⟩ => ⟨S4x8x2x8192x8192, .f32⟩
  | .hbm, ⟨36, _⟩ => ⟨S_, .f32⟩
  | .hbm, ⟨37, _⟩ => ⟨S4x8x2x8192, .f32⟩
  | .hbm, ⟨38, _⟩ => ⟨S_, .f32⟩
  | .hbm, ⟨39, _⟩ => ⟨S4x8x2x8192, .f32⟩
  | .hbm, ⟨40, _⟩ => ⟨S4x8x2x8192, .f32⟩
  | .hbm, ⟨41, _⟩ => ⟨S4x8x2x8192x1, .f32⟩
  | .hbm, ⟨42, _⟩ => ⟨S4x8x2x8192x8192, .f32⟩
  | .hbm, ⟨43, _⟩ => ⟨S4x8x2x8192x8192, .f32⟩
  | .hbm, ⟨44, _⟩ => ⟨S4x8x2x8192x8192, .f32⟩
  | .hbm, ⟨45, _⟩ => ⟨S_, .f32⟩
  | .hbm, ⟨46, _⟩ => ⟨S4x8x2x8192, .f32⟩
  | .hbm, ⟨47, _⟩ => ⟨S4x8x2x8192x1, .f32⟩
  | .hbm, ⟨48, _⟩ => ⟨S4x8x2x8192x8192, .f32⟩
  | .hbm, ⟨49, _⟩ => ⟨S4x8x2x8192x8192, .f32⟩
  | .hbm, ⟨50, _⟩ => ⟨S4x8x1x8192x8192, .f32⟩
  | .hbm, ⟨51, _⟩ => ⟨S4x8x8192x8192, .f32⟩
  | .hbm, ⟨52, _⟩ => ⟨S4x8x1x8192x8192, .f32⟩
  | .hbm, ⟨53, _⟩ => ⟨S4x8x8192x8192, .f32⟩
  | .hbm, ⟨54, _⟩ => ⟨S4x8x8192x8192, .f32⟩
  | .hbm, ⟨55, _⟩ => ⟨S4x8x8192x8192, .f32⟩
  | .hbm, ⟨56, _⟩ => ⟨S4x8x8192x8192, .f32⟩
  | .hbm, ⟨57, _⟩ => ⟨S4x8x128x8192, .f32⟩
  | .hbm, ⟨58, _⟩ => ⟨S4x8192x8x128, .f32⟩
  | .hbm, ⟨59, _⟩ => ⟨S4x8192x8x128, .f32⟩
  | .hbm, ⟨60, _⟩ => ⟨S_, .f32⟩
  | .hbm, ⟨61, _⟩ => ⟨S4x8192x8, .f32⟩
  | .hbm, ⟨62, _⟩ => ⟨S4x8192x8x1, .f32⟩
  | .hbm, ⟨63, _⟩ => ⟨S_, .f32⟩
  | .hbm, ⟨64, _⟩ => ⟨S4x8192x8x1, .f32⟩
  | .hbm, ⟨65, _⟩ => ⟨S4x8192x8x1, .f32⟩
  | .hbm, ⟨66, _⟩ => ⟨S_, .f32⟩
  | .hbm, ⟨67, _⟩ => ⟨S4x8192x8x1, .f32⟩
  | .hbm, ⟨68, _⟩ => ⟨S4x8192x8x1, .f32⟩
  | .hbm, ⟨69, _⟩ => ⟨S4x8192x8x1, .f32⟩
  | .hbm, ⟨70, _⟩ => ⟨S4x8192x8x128, .f32⟩
  | .hbm, ⟨71, _⟩ => ⟨S4x8192x8x128, .f32⟩
  | .hbm, ⟨72, _⟩ => ⟨S1x1x1x128, .f32⟩
  | .hbm, ⟨73, _⟩ => ⟨S4x8192x8x128, .f32⟩
  | .hbm, ⟨74, _⟩ => ⟨S4x8192x8x128, .f32⟩
  | .hbm, ⟨75, _⟩ => ⟨S_, .f32⟩
  | .hbm, ⟨76, _⟩ => ⟨S4x8192x8x128, .f32⟩
  | .hbm, ⟨77, _⟩ => ⟨S4x8192x8x128, .f32⟩
  | .hbm, ⟨78, _⟩ => ⟨S32768x1024, .f32⟩
  | .hbm, ⟨79, _⟩ => ⟨S32768x1024, .bf16⟩
  | _, _ => ⟨S32768x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Kernel2.lean ====
abbrev S32768x1024 : Shape := ⟨2, ![32768, 1024]⟩
abbrev S1024x11328 : Shape := ⟨2, ![1024, 11328]⟩
abbrev S4x8192 : Shape := ⟨2, ![4, 8192]⟩
abbrev S8 : Shape := ⟨1, ![8]⟩
abbrev S_ : Shape := ⟨0, ![]⟩
abbrev S32768 : Shape := ⟨1, ![32768]⟩
abbrev S32768x1 : Shape := ⟨2, ![32768, 1]⟩
abbrev S1x8 : Shape := ⟨2, ![1, 8]⟩
abbrev S32768x8 : Shape := ⟨2, ![32768, 8]⟩
abbrev S32768x48 : Shape := ⟨2, ![32768, 48]⟩
abbrev S32768x64 : Shape := ⟨2, ![32768, 64]⟩
abbrev S32768x128 : Shape := ⟨2, ![32768, 128]⟩
abbrev S1024x2048 : Shape := ⟨2, ![1024, 2048]⟩
abbrev S1024x6144 : Shape := ⟨2, ![1024, 6144]⟩
abbrev S1024x1024 : Shape := ⟨2, ![1024, 1024]⟩
abbrev S1024x9216 : Shape := ⟨2, ![1024, 9216]⟩
abbrev S32768x9216 : Shape := ⟨2, ![32768, 9216]⟩
abbrev S512x1024 : Shape := ⟨2, ![512, 1024]⟩
abbrev S512x128 : Shape := ⟨2, ![512, 128]⟩

abbrev nBuf : Space → Nat
  | .hbm => 45
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S1024x11328, .f32⟩
  | .hbm, ⟨2, _⟩ => ⟨S4x8192, .i32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S32768, .i32⟩
  | .hbm, ⟨18, _⟩ => ⟨S32768, .f32⟩
  | .hbm, ⟨19, _⟩ => ⟨S32768x1, .f32⟩
  | .hbm, ⟨20, _⟩ => ⟨S1x8, .f32⟩
  | .hbm, ⟨21, _⟩ => ⟨S32768x8, .f32⟩
  | .hbm, ⟨22, _⟩ => ⟨S32768x8, .f32⟩
  | .hbm, ⟨23, _⟩ => ⟨S32768x8, .f32⟩
  | .hbm, ⟨24, _⟩ => ⟨S32768x8, .f32⟩
  | .hbm, ⟨25, _⟩ => ⟨S32768x8, .f32⟩
  | .hbm, ⟨26, _⟩ => ⟨S_, .f32⟩
  | .hbm, ⟨27, _⟩ => ⟨S32768x48, .f32⟩
  | .hbm, ⟨28, _⟩ => ⟨S_, .f32⟩
  | .hbm, ⟨29, _⟩ => ⟨S32768x8, .f32⟩
  | .hbm, ⟨30, _⟩ => ⟨S_, .f32⟩
  | .hbm, ⟨31, _⟩ => ⟨S32768x48, .f32⟩
  | .hbm, ⟨32, _⟩ => ⟨S32768x64, .f32⟩
  | .hbm, ⟨33, _⟩ => ⟨S32768x64, .f32⟩
  | .hbm, ⟨34, _⟩ => ⟨S32768x8, .f32⟩
  | .hbm, ⟨35, _⟩ => ⟨S32768x64, .f32⟩
  | .hbm, ⟨36, _⟩ => ⟨S32768x128, .f32⟩
  | .hbm, ⟨37, _⟩ => ⟨S32768x128, .f32⟩
  | .hbm, ⟨38, _⟩ => ⟨S32768x128, .f32⟩
  | .hbm, ⟨39, _⟩ => ⟨S1024x2048, .f32⟩
  | .hbm, ⟨40, _⟩ => ⟨S1024x6144, .f32⟩
  | .hbm, ⟨41, _⟩ => ⟨S1024x1024, .f32⟩
  | .hbm, ⟨42, _⟩ => ⟨S1024x9216, .f32⟩
  | .hbm, ⟨43, _⟩ => ⟨S1024x9216, .bf16⟩
  | .hbm, ⟨44, _⟩ => ⟨S32768x9216, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![9, 64], ![false, false]⟩

def k0_cond1 (i : grid0.Coords) : BitVec 1 :=
  let arg0 : BitVec 32 := BitVec.ofNat 32 (i 0).val
  let c2_i32 : BitVec 32 := 2#32
  let v4 : BitVec 1 := Scalar.cmpi .sge arg0 c2_i32
  let v5 : BitVec 32 := Scalar.extui v4
  let c0_i32 : BitVec 32 := 0#32
  let v6 : BitVec 1 := Scalar.cmpi .ne v5 c0_i32
  v6

def k0_cond2 (i : grid0.Coords) : BitVec 1 :=
  let arg0 : BitVec 32 := BitVec.ofNat 32 (i 0).val
  let c2_i32_3 : BitVec 32 := 2#32
  let v7 : BitVec 1 := Scalar.cmpi .slt arg0 c2_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S32768x1024 : Shape := ⟨2, ![32768, 1024]⟩
abbrev S1024x11328 : Shape := ⟨2, ![1024, 11328]⟩
abbrev S4x8192 : Shape := ⟨2, ![4, 8192]⟩
abbrev S8 : Shape := ⟨1, ![8]⟩
abbrev S_ : Shape := ⟨0, ![]⟩
abbrev S4x8192x1 : Shape := ⟨3, ![4, 8192, 1]⟩
abbrev S1x1x8 : Shape := ⟨3, ![1, 1, 8]⟩
abbrev S4x8192x8 : Shape := ⟨3, ![4, 8192, 8]⟩
abbrev S4x8192x1x1x8 : Shape := ⟨5, ![4, 8192, 1, 1, 8]⟩
abbrev S32768x11328 : Shape := ⟨2, ![32768, 11328]⟩
abbrev S4x8192x11328 : Shape := ⟨3, ![4, 8192, 11328]⟩
abbrev S4x8192x1024 : Shape := ⟨3, ![4, 8192, 1024]⟩
abbrev S4x8192x8x2x64 : Shape := ⟨5, ![4, 8192, 8, 2, 64]⟩
abbrev S4x8192x6144 : Shape := ⟨3, ![4, 8192, 6144]⟩
abbrev S4x8192x8x2x8 : Shape := ⟨5, ![4, 8192, 8, 2, 8]⟩
abbrev S4x8192x8x2x48 : Shape := ⟨5, ![4, 8192, 8, 2, 48]⟩
abbrev S4x8192x9216 : Shape := ⟨3, ![4, 8192, 9216]⟩
abbrev S32768x9216 : Shape := ⟨2, ![32768, 9216]⟩

abbrev nBuf : Space → Nat
  | .hbm => 72
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x11328, .f32⟩
  | .hbm, ⟨2, _⟩ => ⟨S4x8192, .i32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4x8192, .f32⟩
  | .hbm, ⟨18, _⟩ => ⟨S4x8192x1, .f32⟩
  | .hbm, ⟨19, _⟩ => ⟨S1x1x8, .f32⟩
  | .hbm, ⟨20, _⟩ => ⟨S4x8192x8, .f32⟩
  | .hbm, ⟨21, _⟩ => ⟨S4x8192x8, .f32⟩
  | .hbm, ⟨22, _⟩ => ⟨S4x8192x8, .f32⟩
  | .hbm, ⟨23, _⟩ => ⟨S4x8192x8, .f32⟩
  | .hbm, ⟨24, _⟩ => ⟨S4x8192x1x1x8, .f32⟩
  | .hbm, ⟨25, _⟩ => ⟨S4x8192x8, .f32⟩
  | .hbm, ⟨26, _⟩ => ⟨S4x8192x1x1x8, .f32⟩
  | .hbm, ⟨27, _⟩ => ⟨S32768x1024, .f32⟩
  | .hbm, ⟨28, _⟩ => ⟨S32768x11328, .f32⟩
  | .hbm, ⟨29, _⟩ => ⟨S4x8192x11328, .f32⟩
  | .hbm, ⟨30, _⟩ => ⟨S4x8192x1024, .f32⟩
  | .hbm, ⟨31, _⟩ => ⟨S4x8192x8x2x64, .f32⟩
  | .hbm, ⟨32, _⟩ => ⟨S4x8192x1024, .f32⟩
  | .hbm, ⟨33, _⟩ => ⟨S4x8192x8x2x64, .f32⟩
  | .hbm, ⟨34, _⟩ => ⟨S4x8192x1024, .f32⟩
  | .hbm, ⟨35, _⟩ => ⟨S4x8192x6144, .f32⟩
  | .hbm, ⟨36, _⟩ => ⟨S4x8192x8x2x8, .f32⟩
  | .hbm, ⟨37, _⟩ => ⟨S4x8192x8x2x8, .f32⟩
  | .hbm, ⟨38, _⟩ => ⟨S4x8192x8x2x48, .f32⟩
  | .hbm, ⟨39, _⟩ => ⟨S4x8192x8x2x8, .f32⟩
  | .hbm, ⟨40, _⟩ => ⟨S4x8192x8x2x8, .f32⟩
  | .hbm, ⟨41, _⟩ => ⟨S4x8192x8x2x8, .f32⟩
  | .hbm, ⟨42, _⟩ => ⟨S4x8192x8x2x8, .f32⟩
  | .hbm, ⟨43, _⟩ => ⟨S4x8192x8x2x8, .f32⟩
  | .hbm, ⟨44, _⟩ => ⟨S4x8192x8x2x8, .f32⟩
  | .hbm, ⟨45, _⟩ => ⟨S4x8192x8x2x8, .f32⟩
  | .hbm, ⟨46, _⟩ => ⟨S4x8192x8x2x8, .f32⟩
  | .hbm, ⟨47, _⟩ => ⟨S4x8192x8x2x8, .f32⟩
  | .hbm, ⟨48, _⟩ => ⟨S4x8192x8x2x8, .f32⟩
  | .hbm, ⟨49, _⟩ => ⟨S4x8192x8x2x64, .f32⟩
  | .hbm, ⟨50, _⟩ => ⟨S_, .f32⟩
  | .hbm, ⟨51, _⟩ => ⟨S4x8192x8x2x64, .f32⟩
  | .hbm, ⟨52, _⟩ => ⟨S4x8192x8x2x64, .f32⟩
  | .hbm, ⟨53, _⟩ => ⟨S4x8192x8x2x8, .f32⟩
  | .hbm, ⟨54, _⟩ => ⟨S4x8192x8x2x8, .f32⟩
  | .hbm, ⟨55, _⟩ => ⟨S4x8192x8x2x48, .f32⟩
  | .hbm, ⟨56, _⟩ => ⟨S4x8192x8x2x8, .f32⟩
  | .hbm, ⟨57, _⟩ => ⟨S4x8192x8x2x8, .f32⟩
  | .hbm, ⟨58, _⟩ => ⟨S4x8192x8x2x8, .f32⟩
  | .hbm, ⟨59, _⟩ => ⟨S4x8192x8x2x8, .f32⟩
  | .hbm, ⟨60, _⟩ => ⟨S4x8192x8x2x8, .f32⟩
  | .hbm, ⟨61, _⟩ => ⟨S4x8192x8x2x8, .f32⟩
  | .hbm, ⟨62, _⟩ => ⟨S4x8192x8x2x8, .f32⟩
  | .hbm, ⟨63, _⟩ => ⟨S4x8192x8x2x8, .f32⟩
  | .hbm, ⟨64, _⟩ => ⟨S4x8192x8x2x8, .f32⟩
  | .hbm, ⟨65, _⟩ => ⟨S4x8192x8x2x8, .f32⟩
  | .hbm, ⟨66, _⟩ => ⟨S4x8192x8x2x64, .f32⟩
  | .hbm, ⟨67, _⟩ => ⟨S4x8192x1024, .f32⟩
  | .hbm, ⟨68, _⟩ => ⟨S4x8192x1024, .f32⟩
  | .hbm, ⟨69, _⟩ => ⟨S4x8192x9216, .f32⟩
  | .hbm, ⟨70, _⟩ => ⟨S32768x9216, .f32⟩
  | .hbm, ⟨71, _⟩ => ⟨S32768x9216, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩

abbrev nD : Nat := 1
abbrev τ : Topo := Topo.v7x

variable {F : FTy → Type} [FloatOps F]
-- ==== Kernel3.lean ====
abbrev S32768x2048 : Shape := ⟨2, ![32768, 2048]⟩
abbrev S32768x4096 : Shape := ⟨2, ![32768, 4096]⟩
abbrev S32768x9216 : Shape := ⟨2, ![32768, 9216]⟩
abbrev S32 : Shape := ⟨1, ![32]⟩
abbrev S2048 : Shape := ⟨1, ![2048]⟩
abbrev S32768x1024 : Shape := ⟨2, ![32768, 1024]⟩
abbrev S1024x1024 : Shape := ⟨2, ![1024, 1024]⟩
abbrev S2048x1024 : Shape := ⟨2, ![2048, 1024]⟩
abbrev S32x64 : Shape := ⟨2, ![32, 64]⟩
abbrev S1x2048 : Shape := ⟨2, ![1, 2048]⟩
abbrev S256x2048 : Shape := ⟨2, ![256, 2048]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 23
  | .vmem => 25
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x4096, .bf16⟩
  | .hbm, ⟨3, _⟩ => ⟨S32768x9216, .bf16⟩
  | .hbm, ⟨4, _⟩ => ⟨S32, .f32⟩
  | .hbm, ⟨5, _⟩ => ⟨S2048, .f32⟩
  | .hbm, ⟨6, _⟩ => ⟨S32768x1024, .bf16⟩
  | .hbm, ⟨7, _⟩ => ⟨S1024x1024, .f32⟩
  | .hbm, ⟨8, _⟩ => ⟨S2048x1024, .f32⟩
  | .hbm, ⟨9, _⟩ => ⟨S1024x1024, .f32⟩
  | .hbm, ⟨10, _⟩ => ⟨S32768x2048, .f32⟩
  | .hbm, ⟨11, _⟩ => ⟨S2048, .f32⟩
  | .hbm, ⟨12, _⟩ => ⟨S32768x1024, .f32⟩
  | .hbm, ⟨13, _⟩ => ⟨S1024x1024, .bf16⟩
  | .hbm, ⟨14, _⟩ => ⟨S2048x1024, .bf16⟩
  | .hbm, ⟨15, _⟩ => ⟨S1024x1024, .bf16⟩
  | .hbm, ⟨16, _⟩ => ⟨S32x64, .f32⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S32768x1024, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x1024, .bf16⟩
  | .local _ .vmem, ⟨11, _⟩ => ⟨S256x1024, .bf16⟩
  | .local _ .vmem, ⟨12, _⟩ => ⟨S1024x1024, .bf16⟩
  | .local _ .vmem, ⟨13, _⟩ => ⟨S2048x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S32768x2048 : Shape := ⟨2, ![32768, 2048]⟩
abbrev S32768x4096 : Shape := ⟨2, ![32768, 4096]⟩
abbrev S32768x9216 : Shape := ⟨2, ![32768, 9216]⟩
abbrev S32 : Shape := ⟨1, ![32]⟩
abbrev S2048 : Shape := ⟨1, ![2048]⟩
abbrev S32768x1024 : Shape := ⟨2, ![32768, 1024]⟩
abbrev S1024x1024 : Shape := ⟨2, ![1024, 1024]⟩
abbrev S2048x1024 : Shape := ⟨2, ![2048, 1024]⟩
abbrev S32768x32x64 : Shape := ⟨3, ![32768, 32, 64]⟩
abbrev S32x1 : Shape := ⟨2, ![32, 1]⟩
abbrev S1x32x1 : Shape := ⟨3, ![1, 32, 1]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x4096, .bf16⟩
  | .hbm, ⟨3, _⟩ => ⟨S32768x9216, .bf16⟩
  | .hbm, ⟨4, _⟩ => ⟨S32, .f32⟩
  | .hbm, ⟨5, _⟩ => ⟨S2048, .f32⟩
  | .hbm, ⟨6, _⟩ => ⟨S32768x1024, .bf16⟩
  | .hbm, ⟨7, _⟩ => ⟨S1024x1024, .f32⟩
  | .hbm, ⟨8, _⟩ => ⟨S2048x1024, .f32⟩
  | .hbm, ⟨9, _⟩ => ⟨S1024x1024, .f32⟩
  | .hbm, ⟨10, _⟩ => ⟨S32768x2048, .f32⟩
  | .hbm, ⟨11, _⟩ => ⟨S2048, .f32⟩
  | .hbm, ⟨12, _⟩ => ⟨S32768x1024, .f32⟩
  | .hbm, ⟨13, _⟩ => ⟨S32768x2048, .bf16⟩
  | .hbm, ⟨14, _⟩ => ⟨S32768x2048, .f32⟩
  | .hbm, ⟨15, _⟩ => ⟨S32768x2048, .bf16⟩
  | .hbm, ⟨16, _⟩ => ⟨S32768x2048, .f32⟩
  | .hbm, ⟨17, _⟩ => ⟨S32768x32x64, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32x1, .f32⟩
  | .hbm, ⟨22, _⟩ => ⟨S1x32x1, .f32⟩
  | .hbm, ⟨23, _⟩ => ⟨S32768x32x64, .f32⟩
  | .hbm, ⟨24, _⟩ => ⟨S32768x32x64, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x2048, .f32⟩
  | .hbm, ⟨49, _⟩ => ⟨S32768x2048, .f32⟩
  | .hbm, ⟨50, _⟩ => ⟨S1x2048, .f32⟩
  | .hbm, ⟨51, _⟩ => ⟨S32768x2048, .f32⟩
  | .hbm, ⟨52, _⟩ => ⟨S32768x2048, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S1x2048, .f32⟩
  | .hbm, ⟨57, _⟩ => ⟨S32768x2048, .f32⟩
  | .hbm, ⟨58, _⟩ => ⟨S32768x2048, .f32⟩
  | .hbm, ⟨59, _⟩ => ⟨S32768x2048, .f32⟩
  | .hbm, ⟨60, _⟩ => ⟨S32768x2048, .f32⟩
  | .hbm, ⟨61, _⟩ => ⟨S_, .f32⟩
  | .hbm, ⟨62, _⟩ => ⟨S32768x2048, .f32⟩
  | .hbm, ⟨63, _⟩ => ⟨S32768x2048, .f32⟩
  | .hbm, ⟨64, _⟩ => ⟨S_, .f32⟩
  | .hbm, ⟨65, _⟩ => ⟨S32768x2048, .f32⟩
  | .hbm, ⟨66, _⟩ => ⟨S32768x2048, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel4.lean ====
abbrev S32768x1024 : Shape := ⟨2, ![32768, 1024]⟩
abbrev S1024x2048 : Shape := ⟨2, ![1024, 2048]⟩
abbrev S8x2x128x128 : Shape := ⟨4, ![8, 2, 128, 128]⟩
abbrev S16x128x128 : Shape := ⟨3, ![16, 128, 128]⟩
abbrev S16x128x32768 : Shape := ⟨3, ![16, 128, 32768]⟩
abbrev S512x1024 : Shape := ⟨2, ![512, 1024]⟩
abbrev S16x128x512 : Shape := ⟨3, ![16, 128, 512]⟩
abbrev S512x2048 : Shape := ⟨2, ![512, 2048]⟩
abbrev S512x128 : Shape := ⟨2, ![512, 128]⟩
abbrev S1x128x128 : Shape := ⟨3, ![1, 128, 128]⟩
abbrev S128x128 : Shape := ⟨2, ![128, 128]⟩
abbrev S128x512 : Shape := ⟨2, ![128, 512]⟩
abbrev S1x128x512 : Shape := ⟨3, ![1, 128, 512]⟩

abbrev nBuf : Space → Nat
  | .hbm => 7
  | .vmem => 6
  | .smem => 0
  | _ => 0

abbrev bufTy : (tb : Table) → Fin (tcTables nBuf tb) → BufTy
  | .hbm, ⟨0, _⟩ => ⟨S32768x1024, .bf16⟩
  | .hbm, ⟨1, _⟩ => ⟨S1024x2048, .f32⟩
  | .hbm, ⟨2, _⟩ => ⟨S8x2x128x128, .f32⟩
  | .hbm, ⟨3, _⟩ => ⟨S1024x2048, .bf16⟩
  | .hbm, ⟨4, _⟩ => ⟨S16x128x128, .f32⟩
  | .hbm, ⟨5, _⟩ => ⟨S16x128x128, .bf16⟩
  | .hbm, ⟨6, _⟩ => ⟨S16x128x32768, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S16x128x128, .bf16⟩
  | .local _ .vmem, ⟨4, _⟩ => ⟨S16x128x512, .f32⟩
  | .local _ .vmem, ⟨5, _⟩ => ⟨S16x128x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32768x1024 : Shape := ⟨2, ![32768, 1024]⟩
abbrev S1024x2048 : Shape := ⟨2, ![1024, 2048]⟩
abbrev S8x2x128x128 : Shape := ⟨4, ![8, 2, 128, 128]⟩
abbrev S32768x2048 : Shape := ⟨2, ![32768, 2048]⟩
abbrev S32768x8x2x128 : Shape := ⟨4, ![32768, 8, 2, 128]⟩
abbrev S8x2x128x32768 : Shape := ⟨4, ![8, 2, 128, 32768]⟩
abbrev S16x128x32768 : Shape := ⟨3, ![16, 128, 32768]⟩

abbrev nBuf : Space → Nat
  | .hbm => 10
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x2048, .f32⟩
  | .hbm, ⟨2, _⟩ => ⟨S8x2x128x128, .f32⟩
  | .hbm, ⟨3, _⟩ => ⟨S32768x1024, .f32⟩
  | .hbm, ⟨4, _⟩ => ⟨S32768x2048, .f32⟩
  | .hbm, ⟨5, _⟩ => ⟨S32768x8x2x128, .f32⟩
  | .hbm, ⟨6, _⟩ => ⟨S8x2x128x32768, .f32⟩
  | .hbm, ⟨7, _⟩ => ⟨S32768x8x2x128, .f32⟩
  | .hbm, ⟨8, _⟩ => ⟨S8x2x128x32768, .f32⟩
  | .hbm, ⟨9, _⟩ => ⟨S16x128x32768, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S32768x1024 : Shape := ⟨2, ![32768, 1024]⟩
abbrev S1024x11328 : Shape := ⟨2, ![1024, 11328]⟩
abbrev S1024x2048 : Shape := ⟨2, ![1024, 2048]⟩
abbrev S32768x2048 : Shape := ⟨2, ![32768, 2048]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S32768x1024, .bf16⟩
  | .hbm, ⟨1, _⟩ => ⟨S1024x11328, .f32⟩
  | .hbm, ⟨2, _⟩ => ⟨S1024x2048, .f32⟩
  | .hbm, ⟨3, _⟩ => ⟨S1024x2048, .bf16⟩
  | .hbm, ⟨4, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x1024 : Shape := ⟨2, ![32768, 1024]⟩
abbrev S1024x11328 : Shape := ⟨2, ![1024, 11328]⟩
abbrev S32768x11328 : Shape := ⟨2, ![32768, 11328]⟩
abbrev S32768x2048 : Shape := ⟨2, ![32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x11328, .f32⟩
  | .hbm, ⟨2, _⟩ => ⟨S32768x1024, .f32⟩
  | .hbm, ⟨3, _⟩ => ⟨S32768x11328, .f32⟩
  | .hbm, ⟨4, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S32768x1024 : Shape := ⟨2, ![32768, 1024]⟩
abbrev S1024x11328 : Shape := ⟨2, ![1024, 11328]⟩
abbrev S1024x64 : Shape := ⟨2, ![1024, 64]⟩
abbrev S32768x64 : Shape := ⟨2, ![32768, 64]⟩
abbrev S512x1024 : Shape := ⟨2, ![512, 1024]⟩
abbrev S512x64 : Shape := ⟨2, ![512, 64]⟩

abbrev nBuf : Space → Nat
  | .hbm => 5
  | .vmem => 5
  | .smem => 0
  | _ => 0

abbrev bufTy : (tb : Table) → Fin (tcTables nBuf tb) → BufTy
  | .hbm, ⟨0, _⟩ => ⟨S32768x1024, .bf16⟩
  | .hbm, ⟨1, _⟩ => ⟨S1024x11328, .f32⟩
  | .hbm, ⟨2, _⟩ => ⟨S1024x64, .f32⟩
  | .hbm, ⟨3, _⟩ => ⟨S1024x64, .bf16⟩
  | .hbm, ⟨4, _⟩ => ⟨S32768x64, .f32⟩
  | .local _ .vmem, ⟨0, _⟩ => ⟨S512x1024, .bf16⟩
  | .local _ .vmem, ⟨1, _⟩ => ⟨S512x1024, .bf16⟩
  | .local _ .vmem, ⟨2, _⟩ => ⟨S1024x64, .bf16⟩
  | .local _ .vmem, ⟨3, _⟩ => ⟨S512x64, .f32⟩
  | .local _ .vmem, ⟨4, _⟩ => ⟨S512x64, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S32768x1024 : Shape := ⟨2, ![32768, 1024]⟩
abbrev S1024x11328 : Shape := ⟨2, ![1024, 11328]⟩
abbrev S32768x11328 : Shape := ⟨2, ![32768, 11328]⟩
abbrev S32768x64 : Shape := ⟨2, ![32768, 64]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x11328, .f32⟩
  | .hbm, ⟨2, _⟩ => ⟨S32768x1024, .f32⟩
  | .hbm, ⟨3, _⟩ => ⟨S32768x11328, .f32⟩
  | .hbm, ⟨4, _⟩ => ⟨S32768x64, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | .hbm, ⟨18, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S32768x9216 : Shape := ⟨2, ![32768, 9216]⟩
abbrev S5x4096 : Shape := ⟨2, ![5, 4096]⟩
abbrev S4096 : Shape := ⟨1, ![4096]⟩
abbrev S1x4096 : Shape := ⟨2, ![1, 4096]⟩
abbrev S32768x4096 : Shape := ⟨2, ![32768, 4096]⟩
abbrev S8x512 : Shape := ⟨2, ![8, 512]⟩
abbrev S512x512 : Shape := ⟨2, ![512, 512]⟩
abbrev S5x512 : Shape := ⟨2, ![5, 512]⟩
abbrev S1x512 : Shape := ⟨2, ![1, 512]⟩
abbrev S528x512 : Shape := ⟨2, ![528, 512]⟩

abbrev nBuf : Space → Nat
  | .hbm => 5
  | .vmem => 12
  | .smem => 0
  | _ => 0

abbrev bufTy : (tb : Table) → Fin (tcTables nBuf tb) → BufTy
  | .hbm, ⟨0, _⟩ => ⟨S32768x9216, .bf16⟩
  | .hbm, ⟨1, _⟩ => ⟨S5x4096, .f32⟩
  | .hbm, ⟨2, _⟩ => ⟨S4096, .f32⟩
  | .hbm, ⟨3, _⟩ => ⟨S1x4096, .f32⟩
  | .hbm, ⟨4, _⟩ => ⟨S32768x4096, .bf16⟩
  | .local _ .vmem, ⟨0, _⟩ => ⟨S8x512, .bf16⟩
  | .local _ .vmem, ⟨1, _⟩ => ⟨S8x512, .bf16⟩
  | .local _ .vmem, ⟨2, _⟩ => ⟨S512x512, .bf16⟩
  | .local _ .vmem, ⟨3, _⟩ => ⟨S512x512, .bf16⟩
  | .local _ .vmem, ⟨4, _⟩ => ⟨S8x512, .bf16⟩
  | .local _ .vmem, ⟨5, _⟩ => ⟨S8x512, .bf16⟩
  | .local _ .vmem, ⟨6, _⟩ => ⟨S5x512, .f32⟩
  | .local _ .vmem, ⟨7, _⟩ => ⟨S5x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | _, _ => ⟨S32768x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c8_i32 : BitVec 32 := 8#32
  let v5 : BitVec 32 := Scalar.addi c8_i32 arg2
  let c0_i32_0 : BitVec 32 := 0#32
  ![v4.toNat, v5.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.addi c8_i32 arg2
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c64_i32 : BitVec 32 := 64#32
  let v3 : BitVec 32 := Scalar.muli v2 c64_i32
  let c4095_i32 : BitVec 32 := 4095#32
  let v4 : BitVec 32 := Scalar.minsi v3 c4095_i32
  let c8_i32 : BitVec 32 := 8#32
  let v5 : BitVec 32 := Scalar.addi c8_i32 arg2
  let c0_i32 : BitVec 32 := 0#32
  ![v4.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

abbrev stage0_0 : Fin 2 → Memref sig .tc .vmem S8x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S5x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference9Ideal.lean ====
abbrev S32768x9216 : Shape := ⟨2, ![32768, 9216]⟩
abbrev S5x4096 : Shape := ⟨2, ![5, 4096]⟩
abbrev S4096 : Shape := ⟨1, ![4096]⟩
abbrev S32768x4096 : Shape := ⟨2, ![32768, 4096]⟩
abbrev S4x8192x4096 : Shape := ⟨3, ![4, 8192, 4096]⟩
abbrev S_ : Shape := ⟨0, ![]⟩
abbrev S4x8196x4096 : Shape := ⟨3, ![4, 8196, 4096]⟩
abbrev S1x4096 : Shape := ⟨2, ![1, 4096]⟩
abbrev S1x1x4096 : Shape := ⟨3, ![1, 1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S32768x9216, .bf16⟩
  | .hbm, ⟨1, _⟩ => ⟨S5x4096, .f32⟩
  | .hbm, ⟨2, _⟩ => ⟨S4096, .f32⟩
  | .hbm, ⟨3, _⟩ => ⟨S32768x4096, .bf16⟩
  | .hbm, ⟨4, _⟩ => ⟨S32768x4096, .f32⟩
  | .hbm, ⟨5, _⟩ => ⟨S4x8192x4096, .f32⟩
  | .hbm, ⟨6, _⟩ => ⟨S_, .i32⟩
  | .hbm, ⟨7, _⟩ => ⟨S_, .f32⟩
  | .hbm, ⟨8, _⟩ => ⟨S4x8196x4096, .f32⟩
  | .hbm, ⟨9, _⟩ => ⟨S4x8192x4096, .f32⟩
  | .hbm, ⟨10, _⟩ => ⟨S1x4096, .f32⟩
  | .hbm, ⟨11, _⟩ => ⟨S4096, .f32⟩
  | .hbm, ⟨12, _⟩ => ⟨S1x1x4096, .f32⟩
  | .hbm, ⟨13, _⟩ => ⟨S4x8192x4096, .f32⟩
  | .hbm, ⟨14, _⟩ => ⟨S4x8192x4096, .f32⟩
  | .hbm, ⟨15, _⟩ => ⟨S1x1x4096, .f32⟩
  | .hbm, ⟨16, _⟩ => ⟨S4x8192x4096, .f32⟩
  | .hbm, ⟨17, _⟩ => ⟨S4x8192x4096, .f32⟩
  | .hbm, ⟨18, _⟩ => ⟨S4x8192x4096, .f32⟩
  | .hbm, ⟨19, _⟩ => ⟨S1x4096, .f32⟩
  | .hbm, ⟨20, _⟩ => ⟨S4096, .f32⟩
  | .hbm, ⟨21, _⟩ => ⟨S1x1x4096, .f32⟩
  | .hbm, ⟨22, _⟩ => ⟨S4x8192x4096, .f32⟩
  | .hbm, ⟨23, _⟩ => ⟨S4x8192x4096, .f32⟩
  | .hbm, ⟨24, _⟩ => ⟨S4x8192x4096, .f32⟩
  | .hbm, ⟨25, _⟩ => ⟨S4x8192x4096, .f32⟩
  | .hbm, ⟨26, _⟩ => ⟨S1x4096, .f32⟩
  | .hbm, ⟨27, _⟩ => ⟨S4096, .f32⟩
  | .hbm, ⟨28, _⟩ => ⟨S1x1x4096, .f32⟩
  | .hbm, ⟨29, _⟩ => ⟨S4x8192x4096, .f32⟩
  | .hbm, ⟨30, _⟩ => ⟨S4x8192x4096, .f32⟩
  | .hbm, ⟨31, _⟩ => ⟨S4x8192x4096, .f32⟩
  | .hbm, ⟨32, _⟩ => ⟨S4x8192x4096, .f32⟩
  | .hbm, ⟨33, _⟩ => ⟨S1x4096, .f32⟩
  | .hbm, ⟨34, _⟩ => ⟨S4096, .f32⟩
  | .hbm, ⟨35, _⟩ => ⟨S1x1x4096, .f32⟩
  | .hbm, ⟨36, _⟩ => ⟨S4x8192x4096, .f32⟩
  | .hbm, ⟨37, _⟩ => ⟨S4x8192x4096, .f32⟩
  | .hbm, ⟨38, _⟩ => ⟨S4x8192x4096, .f32⟩
  | .hbm, ⟨39, _⟩ => ⟨S4x8192x4096, .f32⟩
  | .hbm, ⟨40, _⟩ => ⟨S1x4096, .f32⟩
  | .hbm, ⟨41, _⟩ => ⟨S4096, .f32⟩
  | .hbm, ⟨42, _⟩ => ⟨S1x1x4096, .f32⟩
  | .hbm, ⟨43, _⟩ => ⟨S4x8192x4096, .f32⟩
  | .hbm, ⟨44, _⟩ => ⟨S4x8192x4096, .f32⟩
  | .hbm, ⟨45, _⟩ => ⟨S4x8192x4096, .f32⟩
  | .hbm, ⟨46, _⟩ => ⟨S4x8192x4096, .f32⟩
  | .hbm, ⟨47, _⟩ => ⟨S4x8192x4096, .f32⟩
  | .hbm, ⟨48, _⟩ => ⟨S_, .f32⟩
  | .hbm, ⟨49, _⟩ => ⟨S4x8192x4096, .f32⟩
  | .hbm, ⟨50, _⟩ => ⟨S4x8192x4096, .f32⟩
  | .hbm, ⟨51, _⟩ => ⟨S_, .f32⟩
  | .hbm, ⟨52, _⟩ => ⟨S4x8192x4096, .f32⟩
  | .hbm, ⟨53, _⟩ => ⟨S4x8192x4096, .f32⟩
  | .hbm, ⟨54, _⟩ => ⟨S4x8192x4096, .f32⟩
  | .hbm, ⟨55, _⟩ => ⟨S32768x4096, .f32⟩
  | .hbm, ⟨56, _⟩ => ⟨S32768x4096, .bf16⟩
  | _, _ => ⟨S32768x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Proof.IdealTrip.lean ====
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

/-! # What one trip of the attention kernel's loop over the keys computes

A trip handles two chunks of 512 keys. It finds the running maximum, the running weighted sums, and the scores of
its first chunk; it leaves the same three for the next trip. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the loop carries: the running maximum, the running sums, the scores of the next chunk. -/
structure Carry (F : FTy → Type) [FloatOps F] where
  max : Vec F S4096x128 .f32
  acc : Vec F S4096x256 .f32
  sc : Vec F S1x4096x512 .f32

/-- The keys (or values) of the second chunk of trip `k`, -/
abbrev rows1 (X : Vec F S8192x128 .bf16) (k : Fin k0_t1_loop.trips) : Vec F S512x128 .bf16 :=
  View.ld X (Rect.unit (s := S8192x128) (k0_off1 k) S512x128.size (k0_off1_inb k))
/-- of its first chunk, -/
abbrev rows2 (X : Vec F S8192x128 .bf16) (k : Fin k0_t1_loop.trips) : Vec F S512x128 .bf16 :=
  View.ld X (Rect.unit (s := S8192x128) (k0_off2 k) S512x128.size (k0_off2_inb k))
/-- and of the first chunk of the trip after (the last chunk again, after the last trip). -/
abbrev rows3 (X : Vec F S8192x128 .bf16) (k : Fin k0_t1_loop.trips) : Vec F S512x128 .bf16 :=
  View.ld X (Rect.unit (s := S8192x128) (k0_off3 k) S512x128.size (k0_off3_inb k))

/-- One trip. -/
def trip (q : Vec F S4096x128 .bf16) (kk vv : Vec F S8192x128 .bf16) (ones : FVec F S512x128 .bf16)
    (k : Fin k0_t1_loop.trips) (s : Carry F) : Carry F :=
  let s1 := k0_pay2 q (rows1 kk k)
  let acc1 := k0_pay8 (k0_pay3 ones (rows2 vv k)) (k0_pay6 s.sc s.max) (k0_pay7 s.sc s.max) s.acc
  let max1 := k0_pay9 (k0_pay5 s.sc s.max)
  ⟨k0_pay24 s1 max1, k0_pay23 (k0_pay11 ones (rows1 vv k)) s1 max1 acc1, k0_pay10 q (rows3 kk k)⟩

variable (i : grid0.Coords) (arg3 : Memref sig .tc .vmem S4x64 .f32) (harg3 : arg3.IsWhole) (arg4 : Memref sig .tc .vmem S1x128 .f32) (harg4 : arg4.IsWhole) (arg5 : Memref sig .tc .vmem S2048x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S2048x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x256 .f32) (harg11 : arg11.IsWhole) (arg12 : Memref sig .tc .vmem S2x4096x512 .f32) (harg12 : arg12.IsWhole)

/-- After a store over a whole buffer, the buffer reads what was stored. -/
theorem read_store_whole {sig' : RefSig} {κ : Kind} {sp : Space} {S : Shape} {e : EltTy} (v : View sig' κ sp S e)
    (f : v.ty.Contents (Elt F)) {off : Fin S.rank → Nat} (inb : ∀ a, off a + S.size a ≤ S.size a) (h : off = fun _ => 0)
    (w : S.Idx → Elt F e) (L : List (View.Piece (Elt F) S e)) :
    v.read (Elt F) (v.writes (Elt F) f (⟨Rect.unit off S.size inb, w⟩ :: L)) = w := by
  subst h
  funext y
  have := View.read_writes_cons_emb v f (Rect.unit (fun _ => 0) S.size inb) w L y
  have e : (Rect.unit (fun _ => 0) S.size inb).emb y = y := congrFun (View.ld_unit_zero (Val := fun _ => S.Idx) (e := e) rfl inb id) y
  rwa [e] at this

/-- A load through the rectangle last stored to reads what was stored. -/
theorem ld_store {sig' : RefSig} {κ : Kind} {sp : Space} {S : Shape} {e : EltTy} (v : View sig' κ sp S e)
    (f : v.ty.Contents (Elt F)) (r : Rect S) (w : r.shape.Idx → Elt F e) (L : List (View.Piece (Elt F) S e)) :
    View.ld (v.read (Elt F) (v.writes (Elt F) f (⟨r, w⟩ :: L))) r = w :=
  funext fun x => View.read_writes_cons_emb v f r w L x

theorem zero2 : (![0, 0] : Fin 2 → Nat) = fun _ => 0 := by
  funext a; fin_cases a <;> rfl

/-- The first slot of the two slots of scores. -/
abbrev slot0 : Rect S2x4096x512 := Rect.unit (s := S2x4096x512) ![0, 0, 0] S1x4096x512.size inb_S2x4096x512_S1x4096x512_0_0_0

/-- The second slot of scores. -/
abbrev slot1 : Rect S2x4096x512 := Rect.unit (s := S2x4096x512) ![1, 0, 0] S1x4096x512.size inb_S2x4096x512_S1x4096x512_1_0_0

/-- The two slots of scores lie apart. -/
theorem slots_disjoint : Disjoint slot0.set slot1.toLoadRect.set :=
  Rect.unit_disjoint (0 : Fin 3) (.inl (by decide))

/-- A load of a whole buffer reads what the buffer holds (the literal extents of the four shapes loaded whole). -/
theorem ld_q (X : Vec F S4096x128 .bf16) :
    View.ld X (Rect.unit (s := S4096x128) ![0, 0] ![4096, 128] inb_S4096x128_S4096x128_0_0) = X := View.ld_unit_zero zero2 _ X
theorem ld_max (X : Vec F S4096x128 .f32) :
    View.ld X (Rect.unit (s := S4096x128) ![0, 0] ![4096, 128] inb_S4096x128_S4096x128_0_0) = X := View.ld_unit_zero zero2 _ X
theorem ld_acc (X : Vec F S4096x256 .f32) :
    View.ld X (Rect.unit (s := S4096x256) ![0, 0] ![4096, 256] inb_S4096x256_S4096x256_0_0) = X := View.ld_unit_zero zero2 _ X

/-- The second slot, stored before the first, reads what was stored to it. -/
theorem slot1_read {sig' : RefSig} {κ : Kind} {sp : Space} (v : View sig' κ sp S2x4096x512 .f32) (w0 w1 : Vec F S1x4096x512 .f32) :
    v.readCov (Val := Elt F) [⟨slot0, w0⟩, ⟨slot1, w1⟩] slot1.toLoadRect = w1 :=
  (View.readCov_cons_of_disjoint v ⟨slot0, w0⟩ [⟨slot1, w1⟩] slot1.toLoadRect slots_disjoint).trans
    (View.readCov_cons_toLoadRect v slot1 w1 [])

/-- What the loop holds between trips: the queries, keys and values, and the carry in the scratch buffers. -/
abbrev held (c : Dev nD) (q : Vec F S4096x128 .bf16) (kk vv : Vec F S8192x128 .bf16) (s : Carry F) : sProp 𝕄 :=
  iprop((arg6.view.loc (c : Thread nD τ) ↦[arg6.view.set]{fullShare} harg6.unread kk)
    ∗ (arg7.view.loc (c : Thread nD τ) ↦[arg7.view.set]{fullShare} harg7.unread vv)
    ∗ (∃ f, (arg9.view.loc (c : Thread nD τ) ↦[arg9.view.set]{fullShare} f) ∗ ⌜arg9.view.read (Elt F) f = q⌝)
    ∗ (∃ f, (arg10.view.loc (c : Thread nD τ) ↦[arg10.view.set]{fullShare} f) ∗ ⌜arg10.view.read (Elt F) f = s.max⌝)
    ∗ (∃ f, (arg11.view.loc (c : Thread nD τ) ↦[arg11.view.set]{fullShare} f) ∗ ⌜arg11.view.read (Elt F) f = s.acc⌝)
    ∗ (∃ f, (arg12.view.loc (c : Thread nD τ) ↦[arg12.view.set]{fullShare} f) ∗ ⌜View.ld (arg12.view.read (Elt F) f) slot0 = s.sc⌝))

include harg3 harg4 harg5 harg8 harg9 harg10 harg11 harg12 in
theorem trip_run (c : Dev nD) (E : Set ℕ) (q : Vec F S4096x128 .bf16) (kk vv : Vec F S8192x128 .bf16)
    (v25 : FVec F S512x128 .bf16) (v30 : FVec F S4096x512 .f32) (k : Fin k0_t1_loop.trips) (s : Carry F) (u : Unit) :
    held arg6 harg6 arg7 harg7 arg9 arg10 arg11 arg12 c q kk vv s
      ⊢ wp frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 arg12 harg12 v25 v30 k u)
          (fun _ => held arg6 harg6 arg7 harg7 arg9 arg10 arg11 arg12 c q kk vv (trip q kk vv v25 k s)) := by
  have hk : k.val < 8 := Nat.lt_of_lt_of_le k.isLt k0_t1_abs.2.1
  unfold k0_t1_body
  iintro ⟨H6, H7, ⟨%f9, H9, %h9⟩, ⟨%f10, H10, %h10⟩, ⟨%f11, H11, %h11⟩, ⟨%f12, H12, %h12⟩⟩
  sl_exec
  sl_step
  isplitl [H6]; · iexact H6
  isplitl [H7]; · iexact H7
  isplitl [H9]; · iexists _; isplitl [H9]; · iexact H9
                  ipureintro; exact h9
  isplitl [H10]
  · iexists _; isplitl [H10]; · iexact H10
    ipureintro
    sl_unfold_run_names
    rw [read_store_whole _ _ _ zero2]
    simp only [View.readAt_eq_ld, View.readCov_cons_toLoadRect, harg6.read_unread, harg7.read_unread, h9, h10, h11, h12, ld_q, ld_max, ld_acc]
    rw [slot1_read]
    rfl
  isplitl [H11]
  · iexists _; isplitl [H11]; · iexact H11
    ipureintro
    sl_unfold_run_names
    rw [read_store_whole _ _ _ zero2]
    simp only [View.readAt_eq_ld, View.readCov_cons_toLoadRect, harg6.read_unread, harg7.read_unread, h9, h10, h11, h12, ld_q, ld_max, ld_acc]
    rw [slot1_read]
    rfl
  iexists _; isplitl [H12]; · iexact H12
  ipureintro
  sl_unfold_run_names
  rw [ld_store]
  simp only [View.readAt_eq_ld, harg6.read_unread, h9, ld_q]
  rfl

end Cert.KernelIdeal.Run

end
-- ==== Proof.IdealRun.lean ====
module

public import proofs.«01_k».proof.Proof.IdealTrip

@[expose] public section

set_option maxRecDepth 16384

noncomputable section

/-! # What the attention kernel's body writes at one grid point

The block of the output as an explicit function of the five input blocks. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The doubled queries: the block with its second head's lanes zeroed, above the block with its first head's zeroed. -/
def doubled (x : Vec F S2048x128 .bf16) : Vec F S4096x128 .bf16 :=
  View.canon [⟨Rect.unit (s := S4096x128) ![2048, 0] S2048x128.size inb_S4096x128_S2048x128_2048_0, k0_pay15 x⟩,
    ⟨Rect.unit (s := S4096x128) ![0, 0] S2048x128.size inb_S4096x128_S2048x128_0_0, k0_pay14 x⟩]

/-- The first chunk of the keys. -/
abbrev rows0 (X : Vec F S8192x128 .bf16) : Vec F S512x128 .bf16 :=
  View.ld X (Rect.unit (s := S8192x128) ![0, 0] S512x128.size inb_S8192x128_S512x128_0_0)

/-- The carry before trip `k`. -/
def carry (q : Vec F S4096x128 .bf16) (kk vv : Vec F S8192x128 .bf16) : ℕ → Carry F
  | 0 => ⟨k0_pay16, k0_pay17, k0_pay20 (k0_pay19 q (rows0 kk))⟩
  | k + 1 => if h : k < k0_t1_loop.trips then trip q kk vv k0_pay18 ⟨k, h⟩ (carry q kk vv k) else carry q kk vv k

theorem carry_succ (q : Vec F S4096x128 .bf16) (kk vv : Vec F S8192x128 .bf16) (k : Fin k0_t1_loop.trips) :
    carry q kk vv (k.val + 1) = trip q kk vv k0_pay18 k (carry q kk vv k.val) := by
  rw [carry, dif_pos k.isLt]

/-- The sums after the loop. -/
def sums (x2 : Vec F S2048x128 .bf16) (x3 x4 : Vec F S8192x128 .bf16) : Vec F S4096x256 .f32 :=
  (carry (doubled x2) x3 x4 k0_t1_loop.trips).acc

/-- The output block. -/
def outBlk (x0 : Vec F S4x64 .f32) (x1 : Vec F S1x128 .f32) (x2 : Vec F S2048x128 .bf16) (x3 x4 : Vec F S8192x128 .bf16) :
    Vec F S2048x128 .bf16 :=
  k0_pay1 (k0_pay25 x0
    (View.ld (sums x2 x3 x4) (Rect.unit (s := S4096x256) ![0, 0] S2048x256.size inb_S4096x256_S2048x256_0_0))
    (View.ld (sums x2 x3 x4) (Rect.unit (s := S4096x256) ![2048, 0] S2048x256.size inb_S4096x256_S2048x256_2048_0))) x1

/-- The two stores of the doubled queries cover their buffer. -/
theorem doubled_cover (a b : Vec F S2048x128 .bf16) (y : S4096x128.Idx) :
    ∃ p ∈ ([⟨Rect.unit (s := S4096x128) ![2048, 0] S2048x128.size inb_S4096x128_S2048x128_2048_0, b⟩,
        ⟨Rect.unit (s := S4096x128) ![0, 0] S2048x128.size inb_S4096x128_S2048x128_0_0, a⟩] :
      List (View.Piece (Elt F) S4096x128 .bf16)), y ∈ p.1.set := by
  have h0 : (y 0).val < 4096 := (y 0).isLt
  have h1 : (y 1).val < 128 := (y 1).isLt
  by_cases h : (y 0).val < 2048
  · refine ⟨_, List.mem_cons_of_mem _ (List.mem_cons_self), ?_⟩
    rw [Rect.mem_set_unit]
    intro a; fin_cases a
    · exact ⟨Nat.zero_le _, by simpa using h⟩
    · exact ⟨Nat.zero_le _, by simpa using h1⟩
  · refine ⟨_, List.mem_cons_self, ?_⟩
    rw [Rect.mem_set_unit]
    intro a; fin_cases a
    · exact ⟨by simpa using h, by simpa using h0⟩
    · exact ⟨Nat.zero_le _, by simpa using h1⟩

theorem ld_in (X : Vec F S2048x128 .bf16) :
    View.ld X (Rect.unit (s := S2048x128) ![0, 0] ![2048, 128] inb_S2048x128_S2048x128_0_0) = X := View.ld_unit_zero zero2 _ X
theorem ld_lam (X : Vec F S4x64 .f32) :
    View.ld X (Rect.unit (s := S4x64) ![0, 0] ![4, 64] inb_S4x64_S4x64_0_0) = X := View.ld_unit_zero zero2 _ X
theorem ld_g (X : Vec F S1x128 .f32) :
    View.ld X (Rect.unit (s := S1x128) ![0, 0] ![1, 128] inb_S1x128_S1x128_0_0) = X := View.ld_unit_zero zero2 _ X

variable (i : grid0.Coords) (arg3 : Memref sig .tc .vmem S4x64 .f32) (harg3 : arg3.IsWhole) (arg4 : Memref sig .tc .vmem S1x128 .f32) (harg4 : arg4.IsWhole) (arg5 : Memref sig .tc .vmem S2048x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S2048x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x256 .f32) (harg11 : arg11.IsWhole) (arg12 : Memref sig .tc .vmem S2x4096x512 .f32) (harg12 : arg12.IsWhole)

theorem body_run (c : Dev nD) (E : Set ℕ) (x0 : Vec F S4x64 .f32) (x1 : Vec F S1x128 .f32) (x2 : Vec F S2048x128 .bf16)
    (x3 x4 : Vec F S8192x128 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outBlk x0 x1 x2 x3 x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_diff_attention i arg3 harg3 arg4 harg4 arg5 harg5 arg6 harg6 arg7 harg7 arg8 harg8 arg9 harg9 arg10 harg10 arg11 harg11 arg12 harg12) K := by
  simp only [cc0_diff_attention_eq_skeleton]; unfold cc0_diff_attention_skel
  simp only [k0_part3_eq_skeleton, k0_part4_eq_skeleton]
  unfold k0_part3_skel k0_part4_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4
  sl_exec
  sl_rw [bind_assoc]
  sl_for (fun k _ => held arg6 harg6 arg7 harg7 arg9 arg10 arg11 arg12 c (doubled x2) x3 x4 (carry (doubled x2) x3 x4 k)) $$ [H3 H4 HS0 HS1 HS2 HS3]
  case region =>
    intro k u
    rw [carry_succ]
    exact trip_run i arg3 harg3 arg4 harg4 arg5 harg5 arg6 harg6 arg7 harg7 arg8 harg8 arg9 harg9 arg10 harg10 arg11 harg11 arg12 harg12 c E _ x3 x4 k0_pay18 _ k _ u
  · isplitl [H3]; · iexact H3
    isplitl [H4]; · iexact H4
    isplitl [HS0]
    · iexists _; isplitl [HS0]; · iexact HS0
      ipureintro
      sl_unfold_run_names
      simp only [View.readAt_eq_ld, harg5.read_unread, ld_in]
      exact View.read_writes_eq_canon _ _ _ (doubled_cover _ _)
    isplitl [HS1]
    · iexists _; isplitl [HS1]; · iexact HS1
      ipureintro
      exact read_store_whole _ _ _ zero2 _ _
    isplitl [HS2]
    · iexists _; isplitl [HS2]; · iexact HS2
      ipureintro
      exact read_store_whole _ _ _ zero2 _ _
    iexists _; isplitl [HS3]; · iexact HS3
    ipureintro
    rw [ld_store]
    sl_unfold_run_names
    simp only [View.readAt_eq_ld, harg5.read_unread, harg6.read_unread, ld_in]
    rw [View.readCov_eq_canon_ld _ _ _ (doubled_cover _ _)]
    exact congrArg (fun q => k0_pay20 (k0_pay19 q (rows0 x3))) (ld_q (doubled x2))
  iintro %u ⟨H3, H4, ⟨%g9, HS0, -⟩, ⟨%g10, HS1, -⟩, ⟨%g11, HS2, %hg⟩, ⟨%g12, HS3, -⟩⟩
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    sl_unfold_run_names
    rw [read_store_whole _ _ _ zero2]
    simp only [View.readAt_eq_ld, harg3.read_unread, harg4.read_unread, hg, ld_lam, ld_g]
    rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Run

end
-- ==== Proof.IdealFrame.lean ====
module

public import proofs.«01_k».proof.Proof.IdealRun
public import Idealize.ShloMosaic.Lib.Claim

@[expose] public section

set_option maxRecDepth 16384

noncomputable section

/-! # The run of the attention program

The body's run at every grid point, handed to the pipeline: every execution ends with the argument arrays unchanged
and each block of the output what the body wrote at its point. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

/-- Window `w`'s staging buffer at point `t`. -/
abbrev st0 (t : Fin cfg0.N) : Memref sig .tc .vmem S4x64 .f32 := win0_0.stage (cfg0.slots t 0)
abbrev st1 (t : Fin cfg0.N) : Memref sig .tc .vmem S1x128 .f32 := win0_1.stage (cfg0.slots t 1)
abbrev st2 (t : Fin cfg0.N) : Memref sig .tc .vmem S2048x128 .bf16 := win0_2.stage (cfg0.slots t 2)
abbrev st3 (t : Fin cfg0.N) : Memref sig .tc .vmem S8192x128 .bf16 := win0_3.stage (cfg0.slots t 3)
abbrev st4 (t : Fin cfg0.N) : Memref sig .tc .vmem S8192x128 .bf16 := win0_4.stage (cfg0.slots t 4)
abbrev st5 (t : Fin cfg0.N) : Memref sig .tc .vmem S2048x128 .bf16 := win0_5.stage (cfg0.slots t 5)

/-- The four scratch buffers. -/
abbrev sc0 : Memref sig .tc .vmem S4096x128 .bf16 := Memref.whole cc0_scratch0
abbrev sc1 : Memref sig .tc .vmem S4096x128 .f32 := Memref.whole cc0_scratch1
abbrev sc2 : Memref sig .tc .vmem S4096x256 .f32 := Memref.whole cc0_scratch2
abbrev sc3 : Memref sig .tc .vmem S2x4096x512 .f32 := Memref.whole cc0_scratch3

/-- The invariant between points: the scratch buffers and the generator's register at any contents. -/
theorem between_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The pipeline's data -/

/-- What the body leaves in the output's buffer at point `t`. -/
def outAt (c : Dev nD) (t : Fin cfg0.N) : Vec F S2048x128 .bf16 :=
  outBlk (iblk m c 0 t) (iblk m c 1 t) (iblk m c 2 t) (iblk m c 3 t) (iblk m c 4 t)

/-- The arrays as the region finds them; after a point each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = outAt m c t := by dsimp only [dats]

theorem found0 (c : Dev nD) (t : Fin cfg0.N) (d) : (dats m 0 c).before 0 t d = iblk m c 0 t :=
  before0_0_of m (dats m 0 c) (dats_A m c 0) (left0 m c) t d
theorem found1 (c : Dev nD) (t : Fin cfg0.N) (d) : (dats m 0 c).before 1 t d = iblk m c 1 t :=
  before0_1_of m (dats m 0 c) (dats_A m c 1) (left1 m c) t d
theorem found2 (c : Dev nD) (t : Fin cfg0.N) (d) : (dats m 0 c).before 2 t d = iblk m c 2 t :=
  before0_2_of m (dats m 0 c) (dats_A m c 2) (left2 m c) t d
theorem found3 (c : Dev nD) (t : Fin cfg0.N) (d) : (dats m 0 c).before 3 t d = iblk m c 3 t :=
  before0_3_of m (dats m 0 c) (dats_A m c 3) (left3 m c) t d
theorem found4 (c : Dev nD) (t : Fin cfg0.N) (d) : (dats m 0 c).before 4 t d = iblk m c 4 t :=
  before0_4_of m (dats m 0 c) (dats_A m c 4) (left4 m c) t d

/-! ## The body at every point -/

/-- What the body starts from at point `t`, -/
def start (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

/-- and what it ends with. -/
def finish (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t))

theorem body_at (c : Dev nD) (t : Fin cfg0.N) :
    start m c t ⊢ wp frame (wpE (defs₀ (F := F)) Variants.none c none) Set.univ (bodyAt0 t) (fun _ => finish m c t) := by
  unfold start finish bodyAt0
  simp only [found0, found1, found2, found3, found4]
  rw [show (dats m 0 c).Φ t.succ = (dats m 0 c).Φ t.castSucc from rfl,
    show (dats m 0 c).owesAt () t.succ = (dats m 0 c).owesAt () t.castSucc from rfl,
    left0, left1, left2, left3, left4, left5]
  rw [show (dats m 0 c).Φ t.castSucc = Pipeline.ΦA spec0 c from rfl, between_eq]
  unfold outAt
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (body_run (grid0.coords t) _ _ _ _ _ _ _ _ _ _ _ _ _ _ _ _ _ _ _ _ c Set.univ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`. -/
theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

/-! ## The run -/

set_option backward.isDefEq.respectTransparency.types false in
/-- Every execution of the program ends, with the pipeline's arrays as its data say and every counter at zero. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (dats_A m) ((θ_run defs _ _).mono (fun _ h => h.1) (run m ρ))

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run m ρ))

end Cert.KernelIdeal.Run

end
-- ==== Proof.KRead.lean ====
module

public import proofs.«01_k».proof.Proof.IdealRun
public import Idealize.ShloMosaic.Lib.Pointwise

@[expose] public section

set_option maxRecDepth 16384

noncomputable section

/-! # The loop's vector values, entry by entry

What each of the loop's values holds at an index, over the extended reals. -/

namespace Cert.KernelIdeal.Run

open Idealize.ShloMosaic Idealize.ShloMosaic.TcCoe
open Cert.KernelIdeal.Gen

/-- The bits of minus infinity. -/
theorem ofBits_neg_inf : Ideal.ofBits .f32 0xFF800000#32 = ⊥ := by simp [Ideal.ofBits, Ideal.ieee]

/-- The new maximum: the old one and a chunk's scores. -/
theorem max_apply (s m) (r : Fin 4096) (l : Fin 128) :
    k0_pay5 (F := Ideal) s m (ix2 r l) = max (m (ix2 r l)) (Finset.univ.fold max ⊥ fun x : Fin 512 => s (ix3 0 r x)) := by
  rw [← ofBits_neg_inf]
  pointwise [k0_pay5, k0_pay4]

/-- The factor that rescales the old sums. -/
theorem factor_apply (s m) (r : Fin 4096) (l : Fin 128) :
    k0_pay6 (F := Ideal) s m (ix2 r l) = Ideal.exp2 (m (ix2 r l) - k0_pay5 s m (ix2 r l)) := by
  pointwise [k0_pay6]
  rfl

/-- A chunk's weights: each is taken against the maximum held in some lane. -/
theorem weight_apply (s m) (r : Fin 4096) (c : Fin 512) :
    ∃ l : Fin 128, k0_pay7 (F := Ideal) s m (ix2 r c) = Ideal.exp2 (s (ix3 0 r c) - k0_pay5 s m (ix2 r l)) := by
  have hc := c.isLt
  have e : k0_pay7 (F := Ideal) s m (ix2 r c)
      = if h : c.val < 128 then Ideal.exp2 (s (ix3 0 r ⟨c.val, hc⟩) - k0_pay5 s m (ix2 r ⟨c.val, h⟩))
        else if h : c.val - 128 < 128 then Ideal.exp2 (s (ix3 0 r ⟨128 + (c.val - 128), by omega⟩) - k0_pay5 s m (ix2 r ⟨c.val - 128, h⟩))
        else if h : c.val - 128 - 128 < 128 then Ideal.exp2 (s (ix3 0 r ⟨256 + (c.val - 128 - 128), by omega⟩) - k0_pay5 s m (ix2 r ⟨c.val - 128 - 128, h⟩))
        else Ideal.exp2 (s (ix3 0 r ⟨384 + (c.val - 128 - 128 - 128), by omega⟩) - k0_pay5 s m (ix2 r ⟨c.val - 128 - 128 - 128, by omega⟩)) := by
    pointwise [k0_pay7, k0_pay4]
    rfl
  rw [e]
  clear e
  by_cases h1 : c.val < 128
  · exact ⟨⟨c, h1⟩, by rw [dif_pos h1]⟩
  rw [dif_neg h1]
  by_cases h2 : c.val - 128 < 128
  · have e : (⟨128 + (c.val - 128), by omega⟩ : Fin 512) = c := Fin.ext (by show 128 + (c.val - 128) = c.val; omega)
    exact ⟨⟨c - 128, h2⟩, by rw [dif_pos h2, e]⟩
  rw [dif_neg h2]
  by_cases h3 : c.val - 128 - 128 < 128
  · have e : (⟨256 + (c.val - 128 - 128), by omega⟩ : Fin 512) = c := Fin.ext (by show 256 + (c.val - 128 - 128) = c.val; omega)
    exact ⟨⟨c - 128 - 128, h3⟩, by rw [dif_pos h3, e]⟩
  rw [dif_neg h3]
  have e : (⟨384 + (c.val - 128 - 128 - 128), by omega⟩ : Fin 512) = c := Fin.ext (by show 384 + (c.val - 128 - 128 - 128) = c.val; omega)
  exact ⟨⟨c - 128 - 128 - 128, by omega⟩, by rw [e]⟩

/-- The rescaled sums with a chunk's terms. -/
theorem acc_apply (a b c d) (r : Fin 4096) (e : Fin 256) :
    ∃ l : Fin 128, k0_pay8 (F := Ideal) a b c d (ix2 r e) = b (ix2 r l) * d (ix2 r e) + ∑ x : Fin 512, c (ix2 r x) * a (ix2 x e) := by
  have he := e.isLt
  by_cases h : e.val < 128
  · refine ⟨⟨e, h⟩, ?_⟩
    pointwise [k0_pay8]
    rw [dif_pos h]
  · refine ⟨⟨e - 128, by omega⟩, ?_⟩
    pointwise [k0_pay8]
    rw [dif_neg h]

/-- A chunk's scores. -/
theorem score_apply (a b) (r : Fin 4096) (l : Fin 512) :
    k0_pay2 (F := Ideal) a b (ix3 0 r l) = ∑ x : Fin 128, a (ix2 r x) * b (ix2 l x) := by
  pointwise [k0_pay2]

/-- A chunk's values with the ones beside them. -/
theorem ext_apply (a b) (r : Fin 512) (e : Fin 256) :
    k0_pay3 (F := Ideal) a b (ix2 r e) = if h : e.val < 128 then b (ix2 r ⟨e, h⟩) else a (ix2 r ⟨e - 128, by have := e.isLt; omega⟩) := by
  pointwise [k0_pay3]

theorem next_score_eq : k0_pay10 (F := Ideal) = k0_pay2 := rfl

theorem next_ext_eq : k0_pay11 (F := Ideal) = k0_pay3 := rfl

theorem first_score_apply (a b) (r : Fin 4096) (l : Fin 512) :
    k0_pay20 (k0_pay19 (F := Ideal) a b) (ix3 0 r l) = ∑ x : Fin 128, a (ix2 r x) * b (ix2 l x) := by
  pointwise [k0_pay20, k0_pay19]

theorem kept_max (s : FVec Ideal S4096x128 .f32) (r : Fin 4096) (l : Fin 128) : k0_pay9 (F := Ideal) s (ix2 r l) = s (ix2 r l) := by
  pointwise [k0_pay9]

theorem next_max (s m) (r : Fin 4096) (l : Fin 128) : k0_pay24 (F := Ideal) s m (ix2 r l) = k0_pay5 s m (ix2 r l) := by
  have e : k0_pay22 (F := Ideal) s m = k0_pay5 s m := rfl
  rw [← e]
  pointwise [k0_pay24]

theorem next_acc (a s m d) : k0_pay23 (F := Ideal) a s m d = k0_pay8 a (k0_pay6 s m) (k0_pay7 s m) d := rfl

theorem start_max (r : Fin 4096) (l : Fin 128) : k0_pay16 (F := Ideal) (ix2 r l) = ⊥ := by
  rw [← ofBits_neg_inf]
  pointwise [k0_pay16]

theorem start_acc (r : Fin 4096) (l : Fin 256) : k0_pay17 (F := Ideal) (ix2 r l) = 0 := by
  pointwise [k0_pay17]

theorem ones_apply (r : Fin 512) (l : Fin 128) : k0_pay18 (F := Ideal) (ix2 r l) = 1 := by
  pointwise [k0_pay18]

end Cert.KernelIdeal.Run

end
-- ==== Proof.Weights.lean ====
module

public import Idealize.ShloMosaic.PureOps.Ideal
public import Mathlib.Analysis.SpecialFunctions.Pow.Real

@[expose] public section

noncomputable section

/-! # The mathematics of softmax weights, taken all at once or chunk by chunk

A row of scores `s 0, s 1, …`, which may be infinite, and real values `w 0, w 1, …`. The softmax average is the quotient of
`∑ 2 ^ (s j - M) * w j` by `∑ 2 ^ (s j - M)`, where `M` is the greatest score. A difference of two infinities of one sign is `⊥`,
whose power is zero, so every power here is a real number. -/

namespace Cert.Attn

open Idealize.ShloMosaic

/-- A finite sum of reals, read as extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- A number below infinity in absolute value is real. -/
theorem real_of_abs_lt {x : EReal} (h : max x (-x) < ⊤) : x = ((x.toReal : ℝ) : EReal) := by
  refine (EReal.coe_toReal ?_ ?_).symm
  · rintro rfl; simp at h
  · rintro rfl; simp at h

/-- The quotient of two reals with a divisor that is not zero. -/
theorem div_real (a : ℝ) {b : ℝ} (hb : b ≠ 0) : Ideal.div (a : EReal) (b : EReal) = ((a / b : ℝ) : EReal) := by
  rw [Ideal.div_coe hb, ← EReal.coe_mul, mul_one_div]

theorem div_zero_zero : Ideal.div ((0 : ℝ) : EReal) ((0 : ℝ) : EReal) = ⊥ := by simp [Ideal.div]

/-! ## Powers of two -/

/-- Two to a power below `⊤`, a real number. -/
def pw (x : EReal) : ℝ := (Ideal.exp2 x).toReal

theorem pw_bot : pw ⊥ = 0 := by simp [pw]

theorem pw_coe (r : ℝ) : pw (r : EReal) = (2 : ℝ) ^ r := by
  rw [pw, Ideal.exp2_coe, EReal.toReal_coe]; rfl

theorem pw_nonneg {x : EReal} (h : x ≠ ⊤) : 0 ≤ pw x := by
  induction x with
  | bot => rw [pw_bot]
  | coe r => rw [pw_coe]; positivity
  | top => exact absurd rfl h

theorem exp2_eq {x : EReal} (h : x ≠ ⊤) : Ideal.exp2 x = ((pw x : ℝ) : EReal) := by
  induction x with
  | bot => rw [pw_bot]; simp
  | coe r => rw [pw_coe, Ideal.exp2_coe]; rfl
  | top => exact absurd rfl h

theorem sub_ne_top {s M : EReal} (h : s ≤ M) : s - M ≠ ⊤ := by
  induction s with
  | bot => rw [EReal.bot_sub]; exact bot_ne_top
  | coe r =>
    induction M with
    | bot => simp at h
    | coe t => rw [← EReal.coe_sub]; exact EReal.coe_ne_top _
    | top => rw [EReal.sub_top]; exact bot_ne_top
  | top =>
    rw [top_le_iff.1 h, EReal.sub_top]; exact bot_ne_top

/-- Rescaling from one maximum to a later one. -/
theorem pw_mul {s m M : EReal} (h1 : s ≤ m) (h2 : m ≤ M) : pw (m - M) * pw (s - m) = pw (s - M) := by
  induction M with
  | top => simp only [EReal.sub_top, pw_bot, zero_mul]
  | bot =>
    have e : s = ⊥ := le_bot_iff.1 (h1.trans h2)
    simp only [e, EReal.bot_sub, pw_bot, mul_zero]
  | coe M =>
    induction s with
    | bot => simp only [EReal.bot_sub, pw_bot, mul_zero]
    | top => exact absurd (h1.trans h2) (by simp)
    | coe s =>
      induction m with
      | bot => simp at h1
      | top => simp at h2
      | coe m =>
        rw [← EReal.coe_sub, ← EReal.coe_sub, ← EReal.coe_sub, pw_coe, pw_coe, pw_coe, ← Real.rpow_add (by norm_num)]
        congr 1; ring

/-- The same power from scores in natural units. -/
theorem exp_scaled {s M : EReal} (h : s ≤ M) :
    Ideal.exp (s * ((Real.log 2 : ℝ) : EReal) - M * ((Real.log 2 : ℝ) : EReal)) = ((pw (s - M) : ℝ) : EReal) := by
  have hl : (0 : ℝ) < Real.log 2 := Real.log_pos (by norm_num)
  induction M with
  | top => rw [EReal.top_mul_coe_of_pos hl, EReal.sub_top, EReal.sub_top, pw_bot]; simp
  | bot => rw [le_bot_iff.1 h, EReal.bot_mul_coe_of_pos hl, EReal.bot_sub, pw_bot]; simp
  | coe M =>
    induction s with
    | bot => rw [EReal.bot_mul_coe_of_pos hl, EReal.bot_sub, EReal.bot_sub, pw_bot]; simp
    | top => simp at h
    | coe s =>
      rw [← EReal.coe_mul, ← EReal.coe_mul, ← EReal.coe_sub, ← EReal.coe_sub, Ideal.exp_coe, pw_coe, Real.rpow_def_of_pos (by norm_num)]
      congr 2; ring

/-! ## All at once -/

/-- The greatest of the first `n` scores. -/
def top (n : ℕ) (s : ℕ → EReal) : EReal := (Finset.range n).sup s

theorem le_top_of {n : ℕ} (s : ℕ → EReal) {j : ℕ} (h : j < n) : s j ≤ top n s := Finset.le_sup (Finset.mem_range.2 h)

theorem top_add (n C : ℕ) (s : ℕ → EReal) : top (n + C) s = max (top n s) (Finset.univ.sup fun c : Fin C => s (n + c)) := by
  refine le_antisymm (Finset.sup_le fun j hj => ?_) (max_le ?_ ?_)
  · have hj := Finset.mem_range.1 hj
    by_cases h : j < n
    · exact (le_top_of s h).trans (le_max_left _ _)
    · refine le_trans ?_ (le_max_right _ _)
      have := Finset.le_sup (f := fun c : Fin C => s (n + c)) (Finset.mem_univ ⟨j - n, by omega⟩)
      rwa [show n + (⟨j - n, by omega⟩ : Fin C).val = j by show n + (j - n) = j; omega] at this
  · exact Finset.sup_le fun j hj => le_top_of s (by have := Finset.mem_range.1 hj; omega)
  · exact Finset.sup_le fun c _ => le_top_of s (by have := c.isLt; omega)

theorem top_eq (n : ℕ) (s : ℕ → EReal) : top n s = Finset.univ.sup fun j : Fin n => s j := by
  have h := top_add 0 n s
  rw [Nat.zero_add] at h
  rw [h, top, Finset.range_zero, Finset.sup_empty, max_eq_right bot_le]
  simp only [Nat.zero_add]

/-- The sum of the weights, -/
def total (n : ℕ) (s : ℕ → EReal) : ℝ := ∑ j ∈ Finset.range n, pw (s j - top n s)

/-- the weighted sum of the values, -/
def gathered (n : ℕ) (s : ℕ → EReal) (w : ℕ → ℝ) : ℝ := ∑ j ∈ Finset.range n, pw (s j - top n s) * w j

/-- and the softmax average of `w` under the scores `s`, to base two. -/
def avg (n : ℕ) (s : ℕ → EReal) (w : ℕ → ℝ) : EReal := Ideal.div (gathered n s w : EReal) (total n s : EReal)

/-- The softmax weight of key `j`. -/
def share (n : ℕ) (s : ℕ → EReal) (j : ℕ) : EReal := Ideal.div ((pw (s j - top n s) : ℝ) : EReal) (total n s : EReal)

/-- The softmax weight, from scores in natural units, as it is computed from the greatest of them. -/
theorem weight {n : ℕ} (s : ℕ → EReal) (i : Fin n) :
    Ideal.div (Ideal.exp (s i * ((Real.log 2 : ℝ) : EReal) - Finset.univ.sup fun j : Fin n => s j * ((Real.log 2 : ℝ) : EReal)))
        (∑ j : Fin n, Ideal.exp (s j * ((Real.log 2 : ℝ) : EReal) - Finset.univ.sup fun j : Fin n => s j * ((Real.log 2 : ℝ) : EReal)))
      = share n s i := by
  have hl : (0 : ℝ) < Real.log 2 := Real.log_pos (by norm_num)
  have hM : (Finset.univ.sup fun j : Fin n => s j * ((Real.log 2 : ℝ) : EReal)) = top n s * ((Real.log 2 : ℝ) : EReal) := by
    rw [top_eq]
    exact (Finset.comp_sup_eq_sup_comp_of_is_total (fun x : EReal => x * ((Real.log 2 : ℝ) : EReal))
      (fun a b hab => mul_le_mul_of_nonneg_right hab (EReal.coe_nonneg.2 hl.le)) (EReal.bot_mul_coe_of_pos hl)).symm
  rw [hM, share, total, coe_sum, exp_scaled (le_top_of s i.isLt), ← Fin.sum_univ_eq_sum_range (fun j => ((pw (s j - top n s) : ℝ) : EReal)) n]
  congr 1
  exact Finset.sum_congr rfl fun j _ => exp_scaled (le_top_of s j.isLt)

/-! ## Chunk by chunk -/

/-- What a row's running maximum `mx` (one copy a lane) and its running sums `ac` (one a column) hold after `n` keys. -/
def Seen {L E : Type} (n : ℕ) (mx : L → EReal) (ac : E → EReal) (s : ℕ → EReal) (w : ℕ → E → ℝ) : Prop :=
  (∀ l, mx l = top n s) ∧ ∀ e, ac e = ((gathered n s fun j => w j e : ℝ) : EReal)

theorem Seen.start {L E : Type} {mx : L → EReal} {ac : E → EReal} (s : ℕ → EReal) (w : ℕ → E → ℝ) (hm : ∀ l, mx l = ⊥) (ha : ∀ e, ac e = 0) :
    Seen 0 mx ac s w :=
  ⟨fun l => by rw [hm]; simp [top], fun e => by rw [ha]; simp [gathered]⟩

/-- One chunk of `C` keys more. -/
theorem Seen.step {L E : Type} {n C : ℕ} {mx mx' : L → EReal} {ac ac' : E → EReal} {s : ℕ → EReal} {w : ℕ → E → ℝ}
    (h : Seen n mx ac s w) {sc p : Fin C → EReal} {vv : Fin C → E → EReal}
    (hsc : ∀ c : Fin C, sc c = s (n + c)) (hvv : ∀ (c : Fin C) e, vv c e = ((w (n + c) e : ℝ) : EReal))
    (hmx : ∀ l, mx' l = max (mx l) (Finset.univ.fold max ⊥ sc))
    (hp : ∀ c, ∃ l, p c = Ideal.exp2 (sc c - mx' l))
    (hac : ∀ e, ∃ l, ac' e = Ideal.exp2 (mx l - mx' l) * ac e + ∑ c, p c * vv c e) : Seen (n + C) mx' ac' s w := by
  have hM : ∀ l, mx' l = top (n + C) s := fun l => by
    rw [hmx, h.1, top_add, show sc = fun c : Fin C => s (n + c) from funext hsc]; rfl
  have hle : top n s ≤ top (n + C) s := by rw [top_add]; exact le_max_left _ _
  refine ⟨hM, fun e => ?_⟩
  obtain ⟨l, hl⟩ := hac e
  rw [hl, h.1, hM, h.2, exp2_eq (sub_ne_top hle), gathered, gathered, Finset.sum_range_add, EReal.coe_add, ← EReal.coe_mul, Finset.mul_sum]
  congr 1
  · congr 1
    refine Finset.sum_congr rfl fun j hj => ?_
    rw [← mul_assoc, pw_mul (le_top_of s (Finset.mem_range.1 hj)) hle]
  · rw [← Fin.sum_univ_eq_sum_range (fun x => pw (s (n + x) - top (n + C) s) * w (n + x) e) C, coe_sum]
    refine Finset.sum_congr rfl fun c _ => ?_
    obtain ⟨l', hl'⟩ := hp c
    rw [hl', hM, hsc, exp2_eq (sub_ne_top (le_top_of s (by have := c.isLt; omega))), hvv, EReal.coe_mul]

/-- The quotient of a row's sums once all keys are seen. -/
theorem Seen.quotient {L E : Type} {n : ℕ} {mx : L → EReal} {ac : E → EReal} {s : ℕ → EReal} {w : ℕ → E → ℝ}
    (h : Seen n mx ac s w) (e o : E) (ho : ∀ j, w j o = 1) : Ideal.div (ac e) (ac o) = avg n s (fun j => w j e) := by
  rw [h.2, h.2, avg]
  congr 2
  rw [gathered, total]
  exact Finset.sum_congr rfl fun j _ => by rw [ho, mul_one]

end Cert.Attn

end
-- ==== Proof.Mix.lean ====
module

public import proofs.«01_k».proof.Proof.Weights

@[expose] public section

noncomputable section

/-! # A difference of two averages, and an average under a difference of weights

The kernel subtracts two softmax averages, the reference subtracts the weights and then sums. Where both rows of scores have a weight
that is not zero, the two agree. A row of scores without one (its greatest score is infinite) makes every lane infinite in the kernel,
and every lane infinite or zero in the reference: the norm that follows turns both into zeros. -/

namespace Cert.Attn

open Idealize.ShloMosaic

/-- The average of `w` under the difference of two rows of weights. -/
def mixed (n : ℕ) (s₀ s₁ : ℕ → EReal) (lam : EReal) (w : ℕ → ℝ) : EReal :=
  ∑ j : Fin n, ((w j : ℝ) : EReal) * (share n s₀ j - lam * share n s₁ j)

/-- The difference of two averages of `w`. -/
def parted (n : ℕ) (s₀ s₁ : ℕ → EReal) (lam : EReal) (w : ℕ → ℝ) : EReal := avg n s₀ w - lam * avg n s₁ w

/-- The norm of a row `u` at `l`. -/
def normed (u : Fin 128 → EReal) (l : Fin 128) : EReal :=
  u l * Ideal.rsqrt (Ideal.div (∑ x : Fin 128, u x * u x) (Ideal.ofBits .f32 0x43000000#32) + Ideal.ofBits .f32 0x358637BD#32)

theorem share_real {n : ℕ} {s : ℕ → EReal} (h : total n s ≠ 0) (j : ℕ) : share n s j = ((pw (s j - top n s) / total n s : ℝ) : EReal) :=
  div_real _ h

theorem avg_real {n : ℕ} {s : ℕ → EReal} (h : total n s ≠ 0) (w : ℕ → ℝ) : avg n s w = ((gathered n s w / total n s : ℝ) : EReal) :=
  div_real _ h

theorem gathered_div {n : ℕ} (s : ℕ → EReal) (w : ℕ → ℝ) :
    gathered n s w / total n s = ∑ j : Fin n, w j * (pw (s j - top n s) / total n s) := by
  rw [gathered, Finset.sum_div, ← Fin.sum_univ_eq_sum_range (fun j => pw (s j - top n s) * w j / total n s) n]
  exact Finset.sum_congr rfl fun j _ => by ring

/-! ## A row without weights -/

theorem pw_zero {n : ℕ} {s : ℕ → EReal} (h : total n s = 0) {j : ℕ} (hj : j < n) : pw (s j - top n s) = 0 :=
  (Finset.sum_eq_zero_iff_of_nonneg fun i hi => pw_nonneg (sub_ne_top (le_top_of s (Finset.mem_range.1 hi)))).1 h j (Finset.mem_range.2 hj)

theorem share_bot {n : ℕ} {s : ℕ → EReal} (h : total n s = 0) {j : ℕ} (hj : j < n) : share n s j = ⊥ := by
  rw [share, h, pw_zero h hj, div_zero_zero]

theorem avg_bot {n : ℕ} {s : ℕ → EReal} (h : total n s = 0) (w : ℕ → ℝ) : avg n s w = ⊥ := by
  have e : gathered n s w = 0 := Finset.sum_eq_zero fun j hj => by rw [pw_zero h (Finset.mem_range.1 hj), zero_mul]
  rw [avg, h, e, div_zero_zero]

/-- Zero or infinite. -/
def Corner (x : EReal) : Prop := x = 0 ∨ x = ⊤ ∨ x = ⊥

theorem Corner.add {x y : EReal} (hx : Corner x) (hy : Corner y) : Corner (x + y) := by
  rcases hx with rfl | rfl | rfl <;> rcases hy with rfl | rfl | rfl <;> simp [Corner]

theorem Corner.real_mul (r : ℝ) {x : EReal} (hx : Corner x) : Corner ((r : EReal) * x) := by
  rcases lt_trichotomy r 0 with h | rfl | h
  · rcases hx with rfl | rfl | rfl
    · simp [Corner]
    · rw [EReal.coe_mul_top_of_neg h]; simp [Corner]
    · rw [EReal.coe_mul_bot_of_neg h]; simp [Corner]
  · simp [Corner]
  · rcases hx with rfl | rfl | rfl
    · simp [Corner]
    · rw [EReal.coe_mul_top_of_pos h]; simp [Corner]
    · rw [EReal.coe_mul_bot_of_pos h]; simp [Corner]

theorem Corner.sum {n : ℕ} (w : ℕ → ℝ) {f : Fin n → EReal} (hf : ∀ j, Corner (f j)) : Corner (∑ j : Fin n, ((w j : ℝ) : EReal) * f j) :=
  Finset.sum_induction _ Corner (fun _ _ => Corner.add) (.inl rfl) fun j _ => (hf j).real_mul _

theorem width_eq : Ideal.ofBits .f32 0x43000000#32 = ((128 : ℝ) : EReal) := by
  simp [Ideal.ofBits, Ideal.ieee]
  rw [← EReal.coe_mul]
  norm_num

theorem small_real : ∃ r : ℝ, Ideal.ofBits .f32 0x358637BD#32 = (r : EReal) := by
  simp [Ideal.ofBits, Ideal.ieee]
  exact ⟨_, (EReal.coe_mul _ _).symm⟩

theorem square_nonneg (x : EReal) : 0 ≤ x * x := by
  rcases le_total 0 x with h | h
  · exact mul_nonneg h h
  · rw [← neg_mul_neg]; exact mul_nonneg (EReal.neg_nonneg.2 h) (EReal.neg_nonneg.2 h)

/-- The norm turns a row of zeros and infinities into zeros. -/
theorem normed_corner {u : Fin 128 → EReal} (hu : ∀ x, Corner (u x)) (l : Fin 128) : normed u l = 0 := by
  rcases hu l with h | h
  · rw [normed, h, zero_mul]
  · have hsq : u l * u l = ⊤ := by rcases h with h | h <;> rw [h] <;> simp
    have hsum : ∑ x : Fin 128, u x * u x = ⊤ :=
      top_le_iff.1 (hsq ▸ Finset.single_le_sum (f := fun x => u x * u x) (fun x _ => square_nonneg _) (Finset.mem_univ l))
    obtain ⟨r, hr⟩ := small_real
    rw [normed, hsum, width_eq, Ideal.div_coe (by norm_num), EReal.top_mul_coe_of_pos (by norm_num), hr, EReal.top_add_coe, Ideal.rsqrt_top, mul_zero]

/-! ## The two agree after the norm -/

/-- Rows of scores with weights. -/
theorem mixed_eq {n : ℕ} {s₀ s₁ : ℕ → EReal} (h₀ : total n s₀ ≠ 0) (h₁ : total n s₁ ≠ 0) (lam : ℝ) (w : ℕ → ℝ) :
    mixed n s₀ s₁ lam w = parted n s₀ s₁ lam w := by
  simp only [mixed, parted, share_real h₀, share_real h₁, avg_real h₀, avg_real h₁, ← EReal.coe_mul, ← EReal.coe_sub]
  rw [← coe_sum, gathered_div, gathered_div, Finset.mul_sum, ← Finset.sum_sub_distrib]
  congr 1
  exact Finset.sum_congr rfl fun j _ => by ring

theorem normed_eq (n : ℕ) (s₀ s₁ : ℕ → EReal) (lam : ℝ) (w : Fin 128 → ℕ → ℝ) (l : Fin 128) :
    normed (fun x => mixed n s₀ s₁ lam (w x)) l = normed (fun x => parted n s₀ s₁ lam (w x)) l := by
  by_cases h₀ : total n s₀ = 0
  · have key : ∀ y : EReal, Corner (⊥ - y) := fun y => by rw [EReal.bot_sub]; exact .inr (.inr rfl)
    have a : ∀ x, Corner (mixed n s₀ s₁ lam (w x)) := fun x => Corner.sum (w x) fun j => by rw [share_bot h₀ j.isLt]; exact key _
    have b : ∀ x, Corner (parted n s₀ s₁ lam (w x)) := fun x => by rw [parted, avg_bot h₀]; exact key _
    rw [normed_corner a, normed_corner b]
  by_cases h₁ : total n s₁ = 0
  · by_cases hl : lam = 0
    · subst hl
      congr 1
      funext x
      simp only [mixed, parted, share_real h₀, avg_real h₀, EReal.coe_zero, zero_mul, sub_zero, ← EReal.coe_mul]
      rw [← coe_sum, gathered_div]
    · have key : ∀ r : ℝ, Corner ((r : EReal) - (lam : EReal) * ⊥) := fun r => by
        rcases lt_or_gt_of_ne hl with h | h
        · rw [EReal.coe_mul_bot_of_neg h, EReal.sub_top]; exact .inr (.inr rfl)
        · rw [EReal.coe_mul_bot_of_pos h, EReal.coe_sub_bot]; exact .inr (.inl rfl)
      have a : ∀ x, Corner (mixed n s₀ s₁ lam (w x)) := fun x => Corner.sum (w x) fun j => by
        rw [share_real h₀, share_bot h₁ j.isLt]; exact key _
      have b : ∀ x, Corner (parted n s₀ s₁ lam (w x)) := fun x => by rw [parted, avg_real h₀, avg_bot h₁]; exact key _
      rw [normed_corner a, normed_corner b]
  · congr 1
    funext x
    exact mixed_eq h₀ h₁ lam (w x)

end Cert.Attn

end
-- ==== Proof.Head.lean ====
module

public import proofs.«01_k».proof.Proof.Mix

@[expose] public section

noncomputable section

/-! # One head of the differential attention

The projection's numbers `X row column`: queries in columns 0 to 1023, keys in 1024 to 2047, values in 8192 to 9215. -/

namespace Cert.Attn

open Idealize.ShloMosaic

/-- The score of query `i` and key `j` under component `c` of head `h` in sequence `b`. -/
def headScore (X : ℕ → ℕ → EReal) (b h c i j : ℕ) : EReal :=
  ∑ x : Fin 64, X (b * 8192 + i) (h * 128 + c * 64 + x) * X (b * 8192 + j) (1024 + (h * 128 + c * 64 + x))

/-- Component `x` of key `j`'s value, a real number. -/
def headValue (X : ℕ → ℕ → EReal) (b h x j : ℕ) : ℝ := (X (b * 8192 + j) (8192 + (h * 128 + x))).toReal

/-- The head's output before its norm. -/
def headOut (X : ℕ → ℕ → EReal) (lam : EReal) (b h i x : ℕ) : EReal :=
  parted 8192 (headScore X b h 0 i) (headScore X b h 1 i) lam (headValue X b h x)

end Cert.Attn

end
-- ==== Proof.KEnds.lean ====
module

public import proofs.«01_k».proof.Proof.IdealRun
public import proofs.«01_k».proof.Proof.Head
public import Idealize.ShloMosaic.Lib.Pointwise
public import Idealize.ShloMosaic.Lib.Pipeline.ValueKit

@[expose] public section

set_option maxRecDepth 16384

noncomputable section

/-! # The doubled queries and the epilogue, entry by entry -/

namespace Cert.KernelIdeal.Run

open Idealize.ShloMosaic Idealize.ShloMosaic.TcCoe
open Cert.KernelIdeal.Gen Cert.Attn

theorem lane_lt (l : Fin 128) : IntOp.cmpi .slt (BitVec.ofNat 32 l.val) 64#32 = if l.val < 64 then 1#1 else 0#1 := by
  revert l; decide +kernel

/-- The upper copy keeps the first 64 lanes, -/
theorem upper_apply (a : Vec Ideal S2048x128 .bf16) (r : Fin 2048) (l : Fin 128) :
    k0_pay14 (F := Ideal) a (ix2 r l) = if l.val < 64 then a (ix2 r l) else 0 := by
  pointwise [k0_pay14, k0_pay12, k0_pay13]
  rw [lane_lt]
  by_cases h : l.val < 64 <;> simp [h, Scalar.select]

/-- and the lower copy the last 64. -/
theorem lower_apply (a : Vec Ideal S2048x128 .bf16) (r : Fin 2048) (l : Fin 128) :
    k0_pay15 (F := Ideal) a (ix2 r l) = if l.val < 64 then 0 else a (ix2 r l) := by
  pointwise [k0_pay15, k0_pay12, k0_pay13]
  rw [lane_lt]
  by_cases h : l.val < 64 <;> simp [h, Scalar.select]

theorem doubled_upper (x : Vec Ideal S2048x128 .bf16) (r : Fin 2048) (l : Fin 128) :
    doubled (F := Ideal) x (ix2 ⟨r, by have := r.isLt; omega⟩ l) = if l.val < 64 then x (ix2 r l) else 0 := by
  rw [← upper_apply]
  unfold doubled
  canon_tiles y h
  · exfalso
    have h0' : r.val = 2048 + (y 0).val := h0
    omega
  · congr 1
    funext a
    refine Fin.cases ?_ (fun a => Fin.cases ?_ (fun a => a.elim0) a) a
    · exact Fin.ext (by have h0' : r.val = (y 0).val := h0; show (y 0).val = r.val; omega)
    · exact Fin.ext (by have h1' : l.val = (y 1).val := h1; show (y 1).val = l.val; omega)

theorem doubled_lower (x : Vec Ideal S2048x128 .bf16) (r : Fin 2048) (l : Fin 128) :
    doubled (F := Ideal) x (ix2 ⟨2048 + r, by have := r.isLt; omega⟩ l) = if l.val < 64 then 0 else x (ix2 r l) := by
  rw [← lower_apply]
  unfold doubled
  canon_tiles y h
  · congr 1
    funext a
    refine Fin.cases ?_ (fun a => Fin.cases ?_ (fun a => a.elim0) a) a
    · exact Fin.ext (by have h0' : 2048 + r.val = 2048 + (y 0).val := h0; show (y 0).val = r.val; omega)
    · exact Fin.ext (by have h1' : l.val = (y 1).val := h1; show (y 1).val = l.val; omega)
  · exfalso
    have h0' : 2048 + r.val = (y 0).val := h0
    have := (y 0).isLt
    omega

/-- The difference's coefficient, as the kernel takes it. -/
def coeff (a : Vec Ideal S4x64 .f32) : EReal :=
  Ideal.exp (∑ x : Fin 64, a (ix2 0 x) * a (ix2 1 x)) - Ideal.exp (∑ x : Fin 64, a (ix2 2 x) * a (ix2 3 x)) + Ideal.ofBits .f32 0x3E4CCCCD#32

/-- One head's output before its norm. -/
def diff (a : Vec Ideal S4x64 .f32) (b c : Vec Ideal S2048x256 .f32) (r : Fin 2048) (x : Fin 128) : EReal :=
  Ideal.div (b (ix2 r ⟨x, by have := x.isLt; omega⟩)) (b (ix2 r ⟨128 + x, by have := x.isLt; omega⟩))
    - coeff a * Ideal.div (c (ix2 r ⟨x, by have := x.isLt; omega⟩)) (c (ix2 r ⟨128 + x, by have := x.isLt; omega⟩))

theorem norm_apply (a b c) (r : Fin 2048) (l : Fin 128) :
    k0_pay25 (F := Ideal) a b c (ix2 r l) = normed (diff a b c r) l := by
  pointwise [k0_pay25]
  rfl

theorem scale_apply (a b) (r : Fin 2048) (l : Fin 128) :
    k0_pay1 (F := Ideal) a b (ix2 r l) = a (ix2 r l) * b (ix2 0 l) * Ideal.ofBits .f32 0x3F4CCCCD#32 := by
  pointwise [k0_pay1]

end Cert.KernelIdeal.Run

end
-- ==== Proof.KFold.lean ====
module

public import proofs.«01_k».proof.Proof.KRead
public import proofs.«01_k».proof.Proof.KEnds
public import proofs.«01_k».proof.Proof.Weights

@[expose] public section

set_option maxRecDepth 16384

noncomputable section

/-! # The loop over the keys computes softmax sums

Where the values are real numbers, every row of the carry keeps `Seen`: after `k` trips, `1024 * k` keys are in its
sums. After the loop, the quotient of a column by a column of ones is the softmax average of that column's values. -/

namespace Cert.KernelIdeal.Run

open Idealize.ShloMosaic Idealize.ShloMosaic.TcCoe
open Cert.KernelIdeal.Gen Cert.Attn

theorem seen_congr {L E : Type} {n : ℕ} {mx mx' : L → EReal} {ac : E → EReal} {s : ℕ → EReal} {w : ℕ → E → ℝ} (h : Seen n mx ac s w)
    (e : ∀ l, mx' l = mx l) : Seen n mx' ac s w := by
  rw [show mx' = mx from funext e]; exact h

/-- One chunk of 512 keys. -/
theorem chunk (sc : Vec Ideal S1x4096x512 .f32) (mx : Vec Ideal S4096x128 .f32) (ac : Vec Ideal S4096x256 .f32) (vx : FVec Ideal S512x256 .bf16)
    (R : Fin 4096) (s : ℕ → EReal) (w : ℕ → Fin 256 → ℝ) (n : ℕ)
    (h : Seen n (fun l : Fin 128 => mx (ix2 R l)) (fun e : Fin 256 => ac (ix2 R e)) s w)
    (hsc : ∀ c : Fin 512, sc (ix3 0 R c) = s (n + c)) (hvv : ∀ (c : Fin 512) e, vx (ix2 c e) = ((w (n + c) e : ℝ) : EReal)) :
    Seen (n + 512) (fun l : Fin 128 => k0_pay5 sc mx (ix2 R l))
      (fun e : Fin 256 => k0_pay8 vx (k0_pay6 sc mx) (k0_pay7 sc mx) ac (ix2 R e)) s w := by
  refine Seen.step (C := 512) (p := fun c => k0_pay7 sc mx (ix2 R c)) h hsc hvv (fun l => max_apply sc mx R l)
    (fun c => weight_apply sc mx R c) (fun e => ?_)
  obtain ⟨l, hl⟩ := acc_apply vx (k0_pay6 sc mx) (k0_pay7 sc mx) ac R e
  exact ⟨l, by rw [hl, factor_apply]⟩

theorem trips_eq : k0_t1_loop.trips = 8 := by decide +kernel

theorem rows0_apply (X : Vec Ideal S8192x128 .bf16) (c : Fin 512) (x : Fin 128) :
    rows0 X (ix2 c x) = X (ix2 ⟨c, by have := c.isLt; omega⟩ x) := by
  refine View.ld_unit_apply_of _ _ _ _ _ _ fun a => ?_
  refine Fin.cases ?_ (fun a => Fin.cases ?_ (fun a => a.elim0) a) a
  · show c.val = 0 + c.val; omega
  · show x.val = 0 + x.val; omega

theorem rows2_apply (X : Vec Ideal S8192x128 .bf16) (k : Fin k0_t1_loop.trips) (c : Fin 512) (x : Fin 128) (j : Fin 8192)
    (hj : j.val = 1024 * k.val + c.val) : rows2 X k (ix2 c x) = X (ix2 j x) := by
  refine View.ld_unit_apply_of _ _ _ _ _ _ fun a => ?_
  refine (?_ : _ = (![_, 0] : Fin 2 → Nat) a + _).trans (congrArg (· + _) (congrFun (k0_off2_eq k) a).symm)
  refine Fin.cases ?_ (fun a => Fin.cases ?_ (fun a => a.elim0) a) a
  · show j.val = 1024 * k.val + c.val; omega
  · show x.val = 0 + x.val; omega

theorem rows1_apply (X : Vec Ideal S8192x128 .bf16) (k : Fin k0_t1_loop.trips) (c : Fin 512) (x : Fin 128) (j : Fin 8192)
    (hj : j.val = 1024 * k.val + 512 + c.val) : rows1 X k (ix2 c x) = X (ix2 j x) := by
  refine View.ld_unit_apply_of _ _ _ _ _ _ fun a => ?_
  refine (?_ : _ = (![_, 0] : Fin 2 → Nat) a + _).trans (congrArg (· + _) (congrFun (k0_off1_eq k) a).symm)
  refine Fin.cases ?_ (fun a => Fin.cases ?_ (fun a => a.elim0) a) a
  · show j.val = 1024 * k.val + 512 + c.val; omega
  · show x.val = 0 + x.val; omega

theorem rows3_apply (X : Vec Ideal S8192x128 .bf16) (k : Fin k0_t1_loop.trips) (c : Fin 512) (x : Fin 128) (j : Fin 8192)
    (hk : k.val < 7) (hj : j.val = 1024 * (k.val + 1) + c.val) : rows3 X k (ix2 c x) = X (ix2 j x) := by
  refine View.ld_unit_apply_of _ _ _ _ _ _ fun a => ?_
  refine (?_ : _ = (![_, 0] : Fin 2 → Nat) a + _).trans (congrArg (· + _) (congrFun (k0_off3_eq k) a).symm)
  refine Fin.cases ?_ (fun a => Fin.cases ?_ (fun a => a.elim0) a) a
  · show j.val = 512 * (min (2 * k.val + 2) 15) + c.val; omega
  · show x.val = 0 + x.val; omega

/-- A row's scores. -/
def rowScore (Q K : ℕ → ℕ → EReal) (R j : ℕ) : EReal := ∑ x : Fin 128, Q R x * K j x

/-- The values with a block of ones beside them. -/
def withOnes (W : ℕ → ℕ → ℝ) (j : ℕ) (e : Fin 256) : ℝ := if e.val < 128 then W j e else 1

theorem score_of {Q K : ℕ → ℕ → EReal} {R j : ℕ} (a b : Fin 128 → EReal) (ha : ∀ x : Fin 128, a x = Q R x)
    (hb : ∀ x : Fin 128, b x = K j x) : ∑ x : Fin 128, a x * b x = rowScore Q K R j :=
  Finset.sum_congr rfl fun x _ => by rw [ha, hb]

theorem real_ext {W : ℕ → ℕ → ℝ} (v : Vec Ideal S512x128 .bf16) (n : ℕ) (hv : ∀ (c : Fin 512) (x : Fin 128), v (ix2 c x) = ((W (n + c) x : ℝ) : EReal))
    (c : Fin 512) (e : Fin 256) : k0_pay3 (F := Ideal) k0_pay18 v (ix2 c e) = ((withOnes W (n + c) e : ℝ) : EReal) := by
  rw [ext_apply, withOnes]
  split_ifs with h
  · exact hv c ⟨e, h⟩
  · rw [ones_apply]; rfl

section

variable (q : Vec Ideal S4096x128 .bf16) (kk vv : Vec Ideal S8192x128 .bf16) (Q K : ℕ → ℕ → EReal) (W : ℕ → ℕ → ℝ)
  (hq : ∀ (R : Fin 4096) (x : Fin 128), q (ix2 R x) = Q R x)
  (hk : ∀ (j : Fin 8192) (x : Fin 128), kk (ix2 j x) = K j x)
  (hv : ∀ (j : Fin 8192) (x : Fin 128), vv (ix2 j x) = ((W j x : ℝ) : EReal))

include hq hk hv

/-- The carry's rows after `k` trips. -/
theorem carry_seen (k : ℕ) (hk8 : k ≤ 8) (R : Fin 4096) :
    Seen (1024 * k) (fun l : Fin 128 => (carry q kk vv k).max (ix2 R l)) (fun e : Fin 256 => (carry q kk vv k).acc (ix2 R e))
      (rowScore Q K R) (withOnes W)
    ∧ (k < 8 → ∀ c : Fin 512, (carry q kk vv k).sc (ix3 0 R c) = rowScore Q K R (1024 * k + c)) := by
  induction k with
  | zero =>
    refine ⟨?_, fun _ c => ?_⟩
    · exact Seen.start _ _ (fun l => start_max R l) (fun e => start_acc R e)
    · refine (first_score_apply q (rows0 kk) R c).trans (score_of _ _ (fun x => hq R x) fun x => ?_)
      rw [rows0_apply, hk]
      simp
  | succ k ih =>
    obtain ⟨hS, hsc⟩ := ih (by omega)
    have hsc := hsc (by omega)
    have hkt : k < k0_t1_loop.trips := by rw [trips_eq]; omega
    rw [carry_succ q kk vv ⟨k, hkt⟩]
    generalize carry q kk vv k = s at hS hsc ⊢
    have h1 := chunk s.sc s.max s.acc (k0_pay3 k0_pay18 (rows2 vv ⟨k, hkt⟩)) R _ _ _ hS hsc
      (fun c e => real_ext _ (1024 * k) (fun c x => by
        rw [rows2_apply vv ⟨k, hkt⟩ c x ⟨1024 * k + c, by have := c.isLt; omega⟩ rfl, hv]) c e)
    have h1' := seen_congr (mx' := fun l : Fin 128 => k0_pay9 (k0_pay5 s.sc s.max) (ix2 R l)) h1 (fun l => kept_max _ R l)
    have h2 := chunk (k0_pay2 q (rows1 kk ⟨k, hkt⟩)) _ _ (k0_pay11 k0_pay18 (rows1 vv ⟨k, hkt⟩)) R _ _ _ h1'
      (fun c => (score_apply q _ R c).trans (score_of _ _ (fun x => hq R x) fun x => by
        rw [rows1_apply kk ⟨k, hkt⟩ c x ⟨1024 * k + 512 + c, by have := c.isLt; omega⟩ rfl, hk]))
      (fun c e => by
        rw [next_ext_eq]
        exact real_ext _ (1024 * k + 512) (fun c x => by
          rw [rows1_apply vv ⟨k, hkt⟩ c x ⟨1024 * k + 512 + c, by have := c.isLt; omega⟩ rfl, hv]) c e)
    refine ⟨?_, fun hk7 c => ?_⟩
    · have e : 1024 * (k + 1) = 1024 * k + 512 + 512 := by ring
      rw [e]
      exact seen_congr h2 (fun l => next_max _ _ R l)
    · show k0_pay10 q (rows3 kk ⟨k, hkt⟩) (ix3 0 R c) = _
      rw [next_score_eq]
      exact (score_apply q _ R c).trans (score_of _ _ (fun x => hq R x) fun x => by
        rw [rows3_apply kk ⟨k, hkt⟩ c x ⟨1024 * (k + 1) + c, by have := c.isLt; omega⟩ (by show k < 7; omega) rfl, hk])

/-- A column of the loop's sums over the column of ones beside it. -/
theorem carry_quotient (R : Fin 4096) (x : Fin 128) :
    Ideal.div ((carry q kk vv k0_t1_loop.trips).acc (ix2 R ⟨x, by have := x.isLt; omega⟩))
        ((carry q kk vv k0_t1_loop.trips).acc (ix2 R ⟨128 + x, by have := x.isLt; omega⟩))
      = avg 8192 (rowScore Q K R) (fun j => W j x) := by
  rw [trips_eq]
  have h := (carry_seen q kk vv Q K W hq hk hv 8 le_rfl R).1
  refine (Seen.quotient (n := 1024 * 8) h ⟨x, by have := x.isLt; omega⟩ ⟨128 + x, by have := x.isLt; omega⟩ fun j => ?_).trans ?_
  · simp [withOnes]
  · congr 1
    funext j
    simp [withOnes]

end

end Cert.KernelIdeal.Run

end
-- ==== Proof.KHead.lean ====
module

public import proofs.«01_k».proof.Proof.KFold

@[expose] public section

set_option maxRecDepth 16384

noncomputable section

/-! # One output block

The block of head `h` of sequence `b` whose first query is `i0`: the upper copy of the queries gives the first component's averages,
the lower copy the second's. -/

namespace Cert.KernelIdeal.Run

open Idealize.ShloMosaic Idealize.ShloMosaic.TcCoe
open Cert.KernelIdeal.Gen Cert.Attn

/-- The doubled queries' numbers. -/
def twoQ (A : ℕ → ℕ → EReal) (b h i0 R x : ℕ) : EReal :=
  if R < 2048 then (if x < 64 then A (b * 8192 + (i0 + R)) (h * 128 + x) else 0)
  else if x < 64 then 0 else A (b * 8192 + (i0 + (R - 2048))) (h * 128 + x)

/-- The head's keys and values. -/
def headK (A : ℕ → ℕ → EReal) (b h j x : ℕ) : EReal := A (b * 8192 + j) (1024 + (h * 128 + x))
def headV (A : ℕ → ℕ → EReal) (b h j x : ℕ) : ℝ := (A (b * 8192 + j) (8192 + (h * 128 + x))).toReal

theorem score_upper (A : ℕ → ℕ → EReal) (b h i0 R j : ℕ) (hR : R < 2048) :
    rowScore (twoQ A b h i0) (headK A b h) R j = headScore A b h 0 (i0 + R) j := by
  rw [rowScore, Fin.sum_univ_two_halves 64 64 rfl, headScore]
  have z : (∑ x : Fin 64, twoQ A b h i0 R (64 + x.val) * headK A b h j (64 + x.val)) = 0 :=
    Finset.sum_eq_zero fun x _ => by simp [twoQ, hR]
  refine (congrArg (_ + ·) z).trans ?_
  rw [add_zero]
  refine Finset.sum_congr rfl fun x _ => ?_
  have hx := x.isLt
  simp [twoQ, headK, hR, hx]

theorem score_lower (A : ℕ → ℕ → EReal) (b h i0 R j : ℕ) :
    rowScore (twoQ A b h i0) (headK A b h) (2048 + R) j = headScore A b h 1 (i0 + R) j := by
  rw [rowScore, Fin.sum_univ_two_halves 64 64 rfl, headScore]
  have z : (∑ x : Fin 64, twoQ A b h i0 (2048 + R) x.val * headK A b h j x.val) = 0 :=
    Finset.sum_eq_zero fun x _ => by simp [twoQ, x.isLt]
  refine (congrArg (· + _) z).trans ?_
  rw [zero_add]
  refine Finset.sum_congr rfl fun x _ => ?_
  have e : 2048 + R - 2048 = R := by omega
  simp [twoQ, headK, e, add_assoc]

section

variable (A : ℕ → ℕ → EReal) (b h i0 : ℕ) (x0 : Vec Ideal S4x64 .f32) (x1 : Vec Ideal S1x128 .f32) (x2 : Vec Ideal S2048x128 .bf16)
  (x3 x4 : Vec Ideal S8192x128 .bf16)
  (h2 : ∀ (r : Fin 2048) (x : Fin 128), x2 (ix2 r x) = A (b * 8192 + (i0 + r)) (h * 128 + x))
  (h3 : ∀ (j : Fin 8192) (x : Fin 128), x3 (ix2 j x) = A (b * 8192 + j) (1024 + (h * 128 + x)))
  (h4 : ∀ (j : Fin 8192) (x : Fin 128), x4 (ix2 j x) = ((headV A b h j x : ℝ) : EReal))

include h2 in
theorem twoQ_apply (R : Fin 4096) (x : Fin 128) : doubled (F := Ideal) x2 (ix2 R x) = twoQ A b h i0 R x := by
  have hR := R.isLt
  by_cases hlt : R.val < 2048
  · refine (doubled_upper x2 ⟨R, hlt⟩ x).trans ?_
    rw [h2, twoQ, if_pos hlt]
  · have e : R = ⟨2048 + (⟨R.val - 2048, by omega⟩ : Fin 2048).val, by show 2048 + (R.val - 2048) < 4096; omega⟩ :=
      Fin.ext (by show R.val = 2048 + (R.val - 2048); omega)
    refine (congrArg (fun R => doubled (F := Ideal) x2 (ix2 R x)) e).trans ((doubled_lower x2 ⟨R.val - 2048, by omega⟩ x).trans ?_)
    rw [h2, twoQ, if_neg hlt]

include h2 h3 h4 in
theorem sums_quotient (R : Fin 4096) (x : Fin 128) :
    Ideal.div (sums (F := Ideal) x2 x3 x4 (ix2 R ⟨x, by have := x.isLt; omega⟩)) (sums (F := Ideal) x2 x3 x4 (ix2 R ⟨128 + x, by have := x.isLt; omega⟩))
      = avg 8192 (rowScore (twoQ A b h i0) (headK A b h) R) (headValue A b h x) :=
  carry_quotient (doubled x2) x3 x4 (twoQ A b h i0) (headK A b h) (headV A b h) (twoQ_apply A b h i0 x2 h2) h3 h4 R x

theorem ld_upper (S : Vec Ideal S4096x256 .f32) (r : Fin 2048) (e : Fin 256) :
    View.ld S (Rect.unit (s := S4096x256) ![0, 0] S2048x256.size inb_S4096x256_S2048x256_0_0) (ix2 r e) = S (ix2 ⟨r, by have := r.isLt; omega⟩ e) := by
  refine View.ld_unit_apply_of _ _ _ _ _ _ fun a => ?_
  refine Fin.cases ?_ (fun a => Fin.cases ?_ (fun a => a.elim0) a) a
  · show r.val = 0 + r.val; omega
  · show e.val = 0 + e.val; omega

theorem ld_lower (S : Vec Ideal S4096x256 .f32) (r : Fin 2048) (e : Fin 256) :
    View.ld S (Rect.unit (s := S4096x256) ![2048, 0] S2048x256.size inb_S4096x256_S2048x256_2048_0) (ix2 r e)
      = S (ix2 ⟨2048 + r, by have := r.isLt; omega⟩ e) := by
  refine View.ld_unit_apply_of _ _ _ _ _ _ fun a => ?_
  refine Fin.cases ?_ (fun a => Fin.cases ?_ (fun a => a.elim0) a) a
  · show 2048 + r.val = 2048 + r.val; omega
  · show e.val = 0 + e.val; omega

include h2 h3 h4 in
/-- The output block at an index. -/
theorem outBlk_apply (r : Fin 2048) (e : Fin 128) :
    outBlk (F := Ideal) x0 x1 x2 x3 x4 (ix2 r e)
      = normed (fun x => headOut A (coeff x0) b h (i0 + r) x) e * x1 (ix2 0 e) * Ideal.ofBits .f32 0x3F4CCCCD#32 := by
  have hr := r.isLt
  unfold outBlk
  rw [scale_apply, norm_apply]
  congr 3
  funext x
  have hx := x.isLt
  unfold diff
  rw [ld_upper, ld_upper, ld_lower, ld_lower, sums_quotient A b h i0 x2 x3 x4 h2 h3 h4, sums_quotient A b h i0 x2 x3 x4 h2 h3 h4, headOut, parted]
  have e0 : rowScore (twoQ A b h i0) (headK A b h) r = headScore A b h 0 (i0 + r) := funext fun j => score_upper A b h i0 r j hr
  have e1 : rowScore (twoQ A b h i0) (headK A b h) (2048 + r.val) = headScore A b h 1 (i0 + r) := funext fun j => score_lower A b h i0 r j
  exact congrArg₂ (fun u v : EReal => u - coeff x0 * v) (congrArg (fun s => avg 8192 s _) e0) (congrArg (fun s => avg 8192 s _) e1)

end

end Cert.KernelIdeal.Run

end
-- ==== Proof.Array.lean ====
module

public import proofs.«01_k».proof.Proof.IdealFrame
public import proofs.«01_k».proof.Proof.KHead
public import Idealize.ShloMosaic.Lib.Pipeline.ValueKit
public import Idealize.ShloMosaic.Lib.Claim

@[expose] public section

set_option maxRecDepth 16384

noncomputable section

/-! # The output array

Grid point `t` is sequence `t / 32`, head `t / 4 % 8` and query block `t % 4`; the written blocks make up the array. -/

namespace Cert.KernelIdeal.Run

open Idealize.ShloMosaic Idealize.ShloMosaic.TcCoe Idealize.SL.Sem
open Cert.KernelIdeal.Gen Cert.Attn

theorem idx : ∀ t : Fin cfg0.N, win0_0.index t = ![0, 0] ∧ win0_1.index t = ![0, 0]
    ∧ win0_2.index t = ![t.val / 32 * 4 + t.val % 4, t.val / 4 % 8] ∧ win0_3.index t = ![t.val / 32, 8 + t.val / 4 % 8]
    ∧ win0_4.index t = ![t.val / 32, 64 + t.val / 4 % 8] ∧ win0_5.index t = ![t.val / 32 * 4 + t.val % 4, t.val / 4 % 8] :=
  (by decide +kernel : ∀ t : Fin grid0.N, _)

/-- What the output array holds at an index. -/
def result (A : ℕ → ℕ → EReal) (L : FVec Ideal S4x64 .f32) (g : FVec Ideal S128 .f32) : FVec Ideal S32768x1024 .bf16 := fun i =>
  normed (fun x => headOut A (coeff L) ((i 0).val / 8192) ((i 1).val / 128) ((i 0).val % 8192) x) ⟨(i 1).val % 128, by omega⟩
    * g (ix1 ⟨(i 1).val % 128, by omega⟩) * Ideal.ofBits .f32 0x3F4CCCCD#32

theorem result_at (A : ℕ → ℕ → EReal) (L : FVec Ideal S4x64 .f32) (g : FVec Ideal S128 .f32) (j : S32768x1024.Idx) (b h i : ℕ) (e : Fin 128) (hi : i < 8192)
    (h0 : (j 0).val = b * 8192 + i) (h1 : (j 1).val = h * 128 + e.val) :
    result A L g j = normed (fun x => headOut A (coeff L) b h i x) e * g (ix1 e) * Ideal.ofBits .f32 0x3F4CCCCD#32 := by
  have he := e.isLt
  have e0 : (j 0).val / 8192 = b := by omega
  have e1 : (j 0).val % 8192 = i := by omega
  have e2 : (j 1).val / 128 = h := by omega
  have e3 : (⟨(j 1).val % 128, by omega⟩ : Fin 128) = e := Fin.ext (by show (j 1).val % 128 = e.val; omega)
  unfold result
  rw [e0, e1, e2, e3]

variable (m : (ℓ : Loc nD τ sig) → Buf (Elt Ideal) ℓ) (c : Dev nD)

theorem blk0 (t : Fin cfg0.N) : iblk m c 0 t = m ((c : Thread nD τ).loc main_arg1) := by
  blk_ext! [iblk, V, idx t]

theorem blk1 (t : Fin cfg0.N) (e : Fin 128) : iblk m c 1 t (ix2 0 e) = m ((c : Thread nD τ).loc main_arg2) (ix1 e) := by
  blk_simp [iblk, idx t]
  entry_read
  pointwise
  blk_ext [idx t]

theorem blk2 (t : Fin cfg0.N) (r : Fin 2048) (x : Fin 128) : iblk m c 2 t (ix2 r x)
    = m ((c : Thread nD τ).loc main_arg0) (ix2 ⟨t.val / 32 * 8192 + (t.val % 4 * 2048 + r.val), by have := (show t.val < 128 from t.isLt); have := r.isLt; omega⟩
        ⟨t.val / 4 % 8 * 128 + x.val, by have := x.isLt; omega⟩) := by
  blk_ext [iblk, V, idx t]

theorem blk3 (t : Fin cfg0.N) (j : Fin 8192) (x : Fin 128) : iblk m c 3 t (ix2 j x)
    = m ((c : Thread nD τ).loc main_arg0) (ix2 ⟨t.val / 32 * 8192 + j.val, by have := (show t.val < 128 from t.isLt); have := j.isLt; omega⟩
        ⟨1024 + (t.val / 4 % 8 * 128 + x.val), by have := x.isLt; omega⟩) := by
  blk_ext [iblk, V, idx t]

theorem blk4 (t : Fin cfg0.N) (j : Fin 8192) (x : Fin 128) : iblk m c 4 t (ix2 j x)
    = m ((c : Thread nD τ).loc main_arg0) (ix2 ⟨t.val / 32 * 8192 + j.val, by have := (show t.val < 128 from t.isLt); have := j.isLt; omega⟩
        ⟨8192 + (t.val / 4 % 8 * 128 + x.val), by have := x.isLt; omega⟩) := by
  blk_ext [iblk, V, idx t]

section

variable (A : ℕ → ℕ → EReal)
  (hA : ∀ (r : Fin 32768) (k : Fin 9216), m ((c : Thread nD τ).loc main_arg0) (ix2 r k) = A r k)
  (hV : ∀ (r : Fin 32768) (k : Fin 9216), 8192 ≤ k.val → A r k = (((A r k).toReal : ℝ) : EReal))

include hA hV

theorem outAt_apply (t : Fin cfg0.N) (r : Fin 2048) (e : Fin 128) :
    outAt m c t (ix2 r e) = normed (fun x => headOut A (coeff (m ((c : Thread nD τ).loc main_arg1))) (t.val / 32) (t.val / 4 % 8) (t.val % 4 * 2048 + r) x) e
      * m ((c : Thread nD τ).loc main_arg2) (ix1 e) * Ideal.ofBits .f32 0x3F4CCCCD#32 := by
  have ht : t.val < 128 := t.isLt
  unfold outAt
  rw [outBlk_apply A (t.val / 32) (t.val / 4 % 8) (t.val % 4 * 2048) (iblk m c 0 t) (iblk m c 1 t) (iblk m c 2 t) (iblk m c 3 t) (iblk m c 4 t)
    (fun r x => (blk2 m c t r x).trans (hA _ _))
    (fun j x => (blk3 m c t j x).trans (hA _ _))
    (fun j x => (blk4 m c t j x).trans ((hA _ _).trans (hV _ _ (by show 8192 ≤ 8192 + (t.val / 4 % 8 * 128 + x.val); omega)))), blk0, blk1]

/-- The whole array after the run. -/
theorem final : (dats m 0 c).arrAt 5 cfg0.N = result A (m ((c : Thread nD τ).loc main_arg1)) (m ((c : Thread nD τ).loc main_arg2)) := by
  refine (dats m 0 c).arrAt_eq_of_covers 5 _ (by decide +kernel) fun t _ y => ?_
  blk_simp
  rw [left5]
  idx_vars y
  rw [outAt_apply m c A hA hV]
  have ht : t.val < 128 := t.isLt
  have h0 := y0.isLt
  refine (result_at A _ _ _ _ _ _ y1 (by omega) ?_ ?_).symm
  · blk_simp [idx t]
    omega
  · blk_simp [idx t]

end

end Cert.KernelIdeal.Run

end
-- ==== Proof.RefTerm.lean ====
module

public import proofs.«01_k».proof.Proof.Gen.ReferenceIdeal.Run
public import Idealize.ShloMosaic.Lib.Pointwise

@[expose] public section

set_option maxRecDepth 16384

noncomputable section

/-! # The reference's result, stage by stage

The composed term of the reference's run is long, since a stage that is read twice stands in it twice. Here each stage has a name. -/

namespace Cert.ReferenceIdeal.Value

open Cert.ReferenceIdeal Cert.ReferenceIdeal.Gen Idealize.ShloMosaic Idealize.ShloMosaic.TcCoe Idealize.SL.Sem Idealize.ShloMosaic.StableHlo

def refQ (X : FVec Ideal S32768x9216 .bf16) : FVec Ideal S4x8192x8x2x64 .f32 :=
  shapeCast _ (extf .f32 (extractStridedSlice S32768x1024 ![0, 0] X slices_S32768x9216_S32768x1024_0_0) bitsLt_bf16_f32) shapeCasts_S32768x1024_S4x8192x8x2x64

def refK (X : FVec Ideal S32768x9216 .bf16) : FVec Ideal S4x8192x8x2x64 .f32 :=
  shapeCast _ (extf .f32 (extractStridedSlice S32768x1024 ![0, 1024] X slices_S32768x9216_S32768x1024_0_1024) bitsLt_bf16_f32) shapeCasts_S32768x1024_S4x8192x8x2x64

def refV (X : FVec Ideal S32768x9216 .bf16) : FVec Ideal S4x8192x8x128 .f32 :=
  shapeCast _ (extf .f32 (extractStridedSlice S32768x1024 ![0, 8192] X slices_S32768x9216_S32768x1024_0_8192) bitsLt_bf16_f32) shapeCasts_S32768x1024_S4x8192x8x128

/-- The difference's coefficient. -/
def refLam (L : FVec Ideal S4x64 .f32) : FVec Ideal S_ .f32 :=
  addf (subf (Host.exp (Host.reduceAdd (mulf (shapeCast _ (extractStridedSlice S1x64 ![0, 0] L slices_S4x64_S1x64_0_0) shapeCasts_S1x64_S64) (shapeCast _ (extractStridedSlice S1x64 ![1, 0] L slices_S4x64_S1x64_1_0) shapeCasts_S1x64_S64)) (constant S_ .f32 0x00000000#32) reducesTo_S64_S_d0 h_S_))
    (Host.exp (Host.reduceAdd (mulf (shapeCast _ (extractStridedSlice S1x64 ![2, 0] L slices_S4x64_S1x64_2_0) shapeCasts_S1x64_S64) (shapeCast _ (extractStridedSlice S1x64 ![3, 0] L slices_S4x64_S1x64_3_0) shapeCasts_S1x64_S64)) (constant S_ .f32 0x00000000#32) reducesTo_S64_S_d0 h_S_)))
    (constant S_ .f32 0x3E4CCCCD#32)

def refScore (q k : FVec Ideal S4x8192x8x2x64 .f32) : FVec Ideal S4x8x2x8192x8192 .f32 :=
  mulf (Host.dotGeneral dot_S4x8192x8x2x64_S4x8192x8x2x64_S4x8x2x8192x8192_4_4_1_1_023_023 none q k)
    (broadcastInDim S4x8x2x8192x8192 ![] bcast_S_S4x8x2x8192x8192 (Host.log (constant S_ .f32 0x40000000#32)))

/-- A row's greatest score. -/
def refMax (s : FVec Ideal S4x8x2x8192x8192 .f32) : FVec Ideal S4x8x2x8192 .f32 :=
  maximumf (broadcastInDim S4x8x2x8192 ![] bcast_S_S4x8x2x8192 (constant S_ .f32 0xFF800000#32))
    (Host.reduce FloatOps.maximumf s (constant S_ .f32 0xFF800000#32) reducesTo_S4x8x2x8192x8192_S4x8x2x8192_d4 h_S_)

def refExp (s : FVec Ideal S4x8x2x8192x8192 .f32) : FVec Ideal S4x8x2x8192x8192 .f32 :=
  Host.exp (subf s (broadcastInDim S4x8x2x8192x8192 ![0, 1, 2, 3, 4] bcast_S4x8x2x8192x1_S4x8x2x8192x8192_0_1_2_3_4
    (broadcastInDim S4x8x2x8192x1 ![0, 1, 2, 3] bcast_S4x8x2x8192_S4x8x2x8192x1_0_1_2_3 (refMax s))))

/-- The softmax weights. -/
def refProb (e : FVec Ideal S4x8x2x8192x8192 .f32) : FVec Ideal S4x8x2x8192x8192 .f32 :=
  Host.divf e (broadcastInDim S4x8x2x8192x8192 ![0, 1, 2, 3, 4] bcast_S4x8x2x8192x1_S4x8x2x8192x8192_0_1_2_3_4
    (broadcastInDim S4x8x2x8192x1 ![0, 1, 2, 3] bcast_S4x8x2x8192_S4x8x2x8192x1_0_1_2_3
      (Host.reduceAdd e (constant S_ .f32 0x00000000#32) reducesTo_S4x8x2x8192x8192_S4x8x2x8192_d4 h_S_)))

/-- The first head's weights less the second's times the coefficient. -/
def refMix (p : FVec Ideal S4x8x2x8192x8192 .f32) (lam : FVec Ideal S_ .f32) : FVec Ideal S4x8x8192x8192 .f32 :=
  subf (shapeCast _ (extractStridedSlice S4x8x1x8192x8192 ![0, 0, 0, 0, 0] p slices_S4x8x2x8192x8192_S4x8x1x8192x8192_0_0_0_0_0) shapeCasts_S4x8x1x8192x8192_S4x8x8192x8192)
    (mulf (broadcastInDim S4x8x8192x8192 ![] bcast_S_S4x8x8192x8192 lam)
      (shapeCast _ (extractStridedSlice S4x8x1x8192x8192 ![0, 0, 1, 0, 0] p slices_S4x8x2x8192x8192_S4x8x1x8192x8192_0_0_1_0_0) shapeCasts_S4x8x1x8192x8192_S4x8x8192x8192))

def refOut (v : FVec Ideal S4x8192x8x128 .f32) (w : FVec Ideal S4x8x8192x8192 .f32) : FVec Ideal S4x8192x8x128 .f32 :=
  transpose S4x8192x8x128 [0, 3, 1, 2] (Host.dotGeneral dot_S4x8192x8x128_S4x8x8192x8192_S4x8x128x8192_1_3_3_2_02_01 none v w) transposes_S4x8x128x8192_S4x8192x8x128_0_3_1_2

/-- The sub-norm, its weight and the last constant. -/
def refNorm (o : FVec Ideal S4x8192x8x128 .f32) (g : FVec Ideal S128 .f32) : FVec Ideal S32768x1024 .bf16 :=
  truncf .bf16 (shapeCast _ (mulf (mulf (mulf o (broadcastInDim S4x8192x8x128 ![0, 1, 2, 3] bcast_S4x8192x8x1_S4x8192x8x128_0_1_2_3
      (Host.rsqrt (addf (Host.divf (broadcastInDim S4x8192x8x1 ![0, 1, 2] bcast_S4x8192x8_S4x8192x8x1_0_1_2
        (Host.reduceAdd (mulf o o) (constant S_ .f32 0x00000000#32) reducesTo_S4x8192x8x128_S4x8192x8_d3 h_S_))
          (broadcastInDim S4x8192x8x1 ![] bcast_S_S4x8192x8x1 (constant S_ .f32 0x43000000#32)))
          (broadcastInDim S4x8192x8x1 ![] bcast_S_S4x8192x8x1 (constant S_ .f32 0x358637BD#32))))))
      (broadcastInDim S4x8192x8x128 ![0, 1, 2, 3] bcast_S1x1x1x128_S4x8192x8x128_0_1_2_3 (broadcastInDim S1x1x1x128 ![3] bcast_S128_S1x1x1x128_3 g)))
    (broadcastInDim S4x8192x8x128 ![] bcast_S_S4x8192x8x128 (constant S_ .f32 0x3F4CCCCD#32))) shapeCasts_S4x8192x8x128_S32768x1024) bitsLt_bf16_f32

/-- The result as a function of the three arguments. -/
def ref (X : FVec Ideal S32768x9216 .bf16) (L : FVec Ideal S4x64 .f32) (g : FVec Ideal S128 .f32) : FVec Ideal S32768x1024 .bf16 :=
  refNorm (refOut (refV X) (refMix (refProb (refExp (refScore (refQ X) (refK X)))) (refLam L))) g

theorem out_eq (m : (ℓ : Loc nD τ sig) → Buf (Elt Ideal) ℓ) (c : Dev nD) :
    res_out0 m c = ref (m ((c.tc : Thread nD τ).loc main_arg0)) (m ((c.tc : Thread nD τ).loc main_arg1)) (m ((c.tc : Thread nD τ).loc main_arg2)) := rfl

end Cert.ReferenceIdeal.Value

end
-- ==== Proof.RefRead.lean ====
module

public import proofs.«01_k».proof.Proof.RefTerm
public import proofs.«01_k».proof.Proof.Weights

@[expose] public section

set_option maxRecDepth 16384

noncomputable section

/-! # The reference's stages, entry by entry -/

namespace Cert.ReferenceIdeal.Value

open Cert.ReferenceIdeal Cert.ReferenceIdeal.Gen Idealize.ShloMosaic Idealize.ShloMosaic.TcCoe Idealize.ShloMosaic.StableHlo

theorem refQ_apply (X : FVec Ideal S32768x9216 .bf16) (b : Fin 4) (s : Fin 8192) (h : Fin 8) (c : Fin 2) (d : Fin 64) :
    refQ X (ix5 b s h c d) = X (ix2 ⟨b * 8192 + s, by have := b.isLt; have := s.isLt; omega⟩
      ⟨h * 128 + c * 64 + d, by have := h.isLt; have := c.isLt; have := d.isLt; omega⟩) := by
  pointwise [refQ]

theorem refK_apply (X : FVec Ideal S32768x9216 .bf16) (b : Fin 4) (s : Fin 8192) (h : Fin 8) (c : Fin 2) (d : Fin 64) :
    refK X (ix5 b s h c d) = X (ix2 ⟨b * 8192 + s, by have := b.isLt; have := s.isLt; omega⟩
      ⟨1024 + (h * 128 + c * 64 + d), by have := h.isLt; have := c.isLt; have := d.isLt; omega⟩) := by
  pointwise [refK]

theorem refV_apply (X : FVec Ideal S32768x9216 .bf16) (b : Fin 4) (s : Fin 8192) (h : Fin 8) (d : Fin 128) :
    refV X (ix4 b s h d) = X (ix2 ⟨b * 8192 + s, by have := b.isLt; have := s.isLt; omega⟩
      ⟨8192 + (h * 128 + d), by have := h.isLt; have := d.isLt; omega⟩) := by
  pointwise [refV]

theorem refLam_apply (L : FVec Ideal S4x64 .f32) :
    refLam L ix0 = Ideal.exp (∑ x : Fin 64, L (ix2 0 x) * L (ix2 1 x)) - Ideal.exp (∑ x : Fin 64, L (ix2 2 x) * L (ix2 3 x))
      + Ideal.ofBits .f32 0x3E4CCCCD#32 := by
  pointwise [refLam]

theorem refScore_apply (q k) (b : Fin 4) (h : Fin 8) (c : Fin 2) (i j : Fin 8192) :
    refScore q k (ix5 b h c i j)
      = (∑ x : Fin 64, q (ix5 b i h c x) * k (ix5 b j h c x)) * Ideal.log (Ideal.ofBits .f32 0x40000000#32) := by
  pointwise [refScore]

theorem refExp_apply (s) (b : Fin 4) (h : Fin 8) (c : Fin 2) (i j : Fin 8192) :
    refExp s (ix5 b h c i j) = Ideal.exp (s (ix5 b h c i j) - refMax s (ix4 b h c i)) := by
  pointwise [refExp]

theorem refProb_apply (e) (b : Fin 4) (h : Fin 8) (c : Fin 2) (i j : Fin 8192) :
    refProb e (ix5 b h c i j) = Ideal.div (e (ix5 b h c i j)) (∑ x : Fin 8192, e (ix5 b h c i x)) := by
  pointwise [refProb]

theorem refMix_apply (p l) (b : Fin 4) (h : Fin 8) (i j : Fin 8192) :
    refMix p l (ix4 b h i j) = p (ix5 b h 0 i j) - l ix0 * p (ix5 b h 1 i j) := by
  pointwise [refMix]

theorem refOut_apply (v w) (b : Fin 4) (h : Fin 8) (i : Fin 8192) (e : Fin 128) :
    refOut v w (ix4 b i h e) = ∑ x : Fin 8192, v (ix4 b x h e) * w (ix4 b h i x) := by
  pointwise [refOut]

theorem refNorm_apply (o g) (r : Fin 32768) (e : Fin 1024) :
    refNorm o g (ix2 r e) =
      let u : Fin 128 → EReal := fun x => o (ix4 ⟨r / 8192, by have := r.isLt; omega⟩ ⟨r % 8192, by omega⟩ ⟨e / 128, by have := e.isLt; omega⟩ x)
      u ⟨e % 128, by omega⟩ * Ideal.rsqrt (Ideal.div (∑ x : Fin 128, u x * u x) (Ideal.ofBits .f32 0x43000000#32) + Ideal.ofBits .f32 0x358637BD#32)
        * g (ix1 ⟨e % 128, by omega⟩) * Ideal.ofBits .f32 0x3F4CCCCD#32 := by
  pointwise [refNorm]

theorem ofBits_bot : Ideal.ofBits .f32 0xFF800000#32 = ⊥ := by simp [Ideal.ofBits, Ideal.ieee]

theorem ofBits_two : Ideal.ofBits .f32 0x40000000#32 = ((2 : ℝ) : EReal) := by
  simp [Ideal.ofBits, Ideal.ieee]
  rw [← EReal.coe_mul]
  norm_num

theorem ofBits_fifth : ∃ r : ℝ, Ideal.ofBits .f32 0x3E4CCCCD#32 = (r : EReal) := by
  simp [Ideal.ofBits, Ideal.ieee]
  exact ⟨_, (EReal.coe_mul _ _).symm⟩

theorem drop_last (b : Fin 4) (h : Fin 8) (c : Fin 2) (i j : Fin 8192) :
    reducesTo_S4x8x2x8192x8192_S4x8x2x8192_d4.drop (ix5 b h c i j) = ix4 b h c i := by
  funext a
  refine Fin.cases ?_ (fun a => Fin.cases ?_ (fun a => Fin.cases ?_ (fun a => Fin.cases ?_ (fun a => a.elim0) a) a) a) a <;> exact Fin.ext rfl

/-- A row's greatest score. -/
theorem refMax_apply (s : FVec Ideal S4x8x2x8192x8192 .f32) (b : Fin 4) (h : Fin 8) (c : Fin 2) (i : Fin 8192) :
    refMax s (ix4 b h c i) = Finset.univ.sup fun j : Fin 8192 => s (ix5 b h c i j) := by
  have e : refMax s = fun j => max ⊥ (Host.reduce (FloatOps.maximumf (F := Ideal) (φ := .f32)) s (constant S_ .f32 0xFF800000#32)
      reducesTo_S4x8x2x8192x8192_S4x8x2x8192_d4 h_S_ j) := by
    rw [← ofBits_bot]; rfl
  rw [e]
  show max ⊥ (Host.reduce _ _ _ _ _ _) = _
  rw [max_eq_right bot_le, Host.reduce_eq_fold]
  refine (congrArg (fun z => Finset.fold max z s _) ofBits_bot).trans ?_
  show (Finset.univ.filter fun i' => reducesTo_S4x8x2x8192x8192_S4x8x2x8192_d4.drop i' = ix4 b h c i).sup s = _
  refine le_antisymm (Finset.sup_le fun x hx => ?_) (Finset.sup_le fun j _ => ?_)
  · replace hx := (Finset.mem_filter.1 hx).2
    idx_vars x
    have hd := (drop_last x0 x1 x2 x3 x4).symm.trans hx
    have e0 : x0 = b := congrFun hd 0
    have e1 : x1 = h := congrFun hd 1
    have e2 : x2 = c := congrFun hd 2
    have e3 : x3 = i := congrFun hd 3
    subst e0 e1 e2 e3
    exact Finset.le_sup (f := fun j : Fin 8192 => s (ix5 x0 x1 x2 x3 j)) (Finset.mem_univ x4)
  · exact Finset.le_sup (Finset.mem_filter.mpr ⟨Finset.mem_univ _, drop_last b h c i j⟩)

end Cert.ReferenceIdeal.Value

end
-- ==== Proof.RefValue.lean ====
module

public import proofs.«01_k».proof.Proof.RefRead
public import proofs.«01_k».proof.Proof.Head

@[expose] public section

set_option maxRecDepth 16384

noncomputable section

/-! # The reference's result where the values are real -/

namespace Cert.ReferenceIdeal.Value

open Cert.ReferenceIdeal Cert.ReferenceIdeal.Gen Idealize.ShloMosaic Idealize.ShloMosaic.TcCoe Idealize.ShloMosaic.StableHlo Cert.Attn

theorem log_two : Ideal.log ((2 : ℝ) : EReal) = ((Real.log 2 : ℝ) : EReal) := by
  rw [Ideal.log_coe, if_neg (by norm_num)]

section

variable (X : FVec Ideal S32768x9216 .bf16) (A : ℕ → ℕ → EReal) (hX : ∀ (r : Fin 32768) (c : Fin 9216), X (ix2 r c) = A r c)

include hX

theorem score_eq (b : Fin 4) (h : Fin 8) (c : Fin 2) (i j : Fin 8192) :
    refScore (refQ X) (refK X) (ix5 b h c i j) = headScore A b h c i j * ((Real.log 2 : ℝ) : EReal) := by
  rw [refScore_apply, ofBits_two, log_two, headScore]
  congr 1
  exact Finset.sum_congr rfl fun x _ => by rw [refQ_apply, refK_apply, hX, hX]

theorem prob_eq (b : Fin 4) (h : Fin 8) (c : Fin 2) (i j : Fin 8192) :
    refProb (refExp (refScore (refQ X) (refK X))) (ix5 b h c i j) = share 8192 (headScore A b h c i) j := by
  rw [refProb_apply]
  simp only [refExp_apply, refMax_apply, score_eq X A hX]
  exact weight (headScore A b h c i) j

variable (hV : ∀ (r : Fin 32768) (k : Fin 9216), 8192 ≤ k.val → A r k = (((A r k).toReal : ℝ) : EReal))

include hV

theorem out_eq_mixed (lam : ℝ) (l : FVec Ideal S_ .f32) (hl : l ix0 = (lam : EReal)) (b : Fin 4) (h : Fin 8) (i : Fin 8192) (e : Fin 128) :
    refOut (refV X) (refMix (refProb (refExp (refScore (refQ X) (refK X)))) l) (ix4 b i h e)
      = mixed 8192 (headScore A b h 0 i) (headScore A b h 1 i) lam (headValue A b h e) := by
  rw [refOut_apply, mixed]
  refine Finset.sum_congr rfl fun x _ => ?_
  rw [refMix_apply, prob_eq X A hX, prob_eq X A hX, hl, refV_apply, hX, hV _ _ (by show 8192 ≤ 8192 + (h.val * 128 + e.val); omega)]
  rfl

/-- The reference's result at an index. -/
theorem ref_apply (L : FVec Ideal S4x64 .f32) (g : FVec Ideal S128 .f32) (lam : ℝ) (hl : refLam L ix0 = (lam : EReal)) (r : Fin 32768) (e : Fin 1024) :
    ref X L g (ix2 r e) = normed (fun x => headOut A lam (r / 8192) (e / 128) (r % 8192) x) ⟨e % 128, by omega⟩
      * g (ix1 ⟨e % 128, by omega⟩) * Ideal.ofBits .f32 0x3F4CCCCD#32 := by
  rw [ref, refNorm_apply]
  simp only [out_eq_mixed X A hX hV lam (refLam L) hl]
  exact congrArg (fun z => z * g (ix1 ⟨e % 128, by omega⟩) * Ideal.ofBits .f32 0x3F4CCCCD#32)
    (normed_eq 8192 (headScore A (r / 8192) (e / 128) 0 (r % 8192)) (headScore A (r / 8192) (e / 128) 1 (r % 8192)) lam
      (fun x => headValue A (r / 8192) (e / 128) x) ⟨e % 128, by omega⟩)

end

/-- The coefficient is real where its parameters are. -/
theorem lam_real (L : FVec Ideal S4x64 .f32) (hL : ∀ i, ∃ r : ℝ, L i = (r : EReal)) : ∃ lam : ℝ, refLam L ix0 = (lam : EReal) := by
  choose f hf using hL
  obtain ⟨z, hz⟩ := ofBits_fifth
  rw [refLam_apply, hz]
  simp only [hf, ← EReal.coe_mul, ← coe_sum, Ideal.exp_coe, ← EReal.coe_sub, ← EReal.coe_add]
  exact ⟨_, rfl⟩

end Cert.ReferenceIdeal.Value

end
-- ==== Proof.Pre.lean ====
module

public import proofs.«01_k».proof.Pre_finite_values
public import proofs.«01_k».proof.Proof.Weights
public import Idealize.ShloMosaic.Lib.Pointwise
public import Idealize.ShloMosaic.Lib.ReduceAll

@[expose] public section

set_option maxRecDepth 16384

noncomputable section

/-! # What the precondition says

The values and the coefficient's parameters are real numbers. -/

namespace Cert.Pre_finite_values

open Idealize.ShloMosaic

/-- The facts the printed condition states. -/
theorem facts : Cert.Pre_finite_values.Facts where
  slices_S32768x9216_S32768x1024_0_8192 := by decide
  bcast_S_S32768x1024 := by decide
  reducesTo_S32768x1024_S_d0_1 := by decide
  h_S_ := by decide
  bcast_S_S4x64 := by decide
  reducesTo_S4x64_S_d0_1 := by decide

theorem top_bf16 : Ideal.ofBits .bf16 0x7F80#16 = ⊤ := by simp [Ideal.ofBits, Ideal.ieee]

theorem top_f32 : Ideal.ofBits .f32 0x7F800000#32 = ⊤ := by simp [Ideal.ofBits, Ideal.ieee]

theorem one_of_and {a b : BitVec 1} (h : IntOp.andi a b = 1#1) : a = 1#1 ∧ b = 1#1 := by
  revert a b; decide

theorem lt_of_cmp {φ : FTy} {x y : Ideal φ} (h : FloatOps.cmpf .olt x y = 1#1) : (x : EReal) < y := by
  by_contra hn
  have : FloatOps.cmpf (F := Ideal) .olt x y = BitVec.ofBool (decide ((x : EReal) < y)) := by rfl
  rw [this, decide_eq_false hn] at h
  exact absurd h (by decide)

/-- Every entry of an array whose absolute values are all below infinity is real. -/
theorem real_of_all {s : Shape} {axes : List (Fin s.rank)} {φ : FTy} (x : FVec Ideal s φ) (inf : FVec Ideal s φ) (hinf : ∀ i, inf i = (⊤ : EReal))
    (init : IVec S_ 1) (h : s.ReducesTo axes S_) (hu : 0 < S_.numel) (j : S_.Idx)
    (e : Host.reduce IntOp.andi (cmpf .olt (Host.absf x) inf) init h hu j = 1#1) (i : s.Idx) : ∃ r : ℝ, x i = (r : EReal) := by
  have hi : h.drop i = j := funext fun a => a.elim0
  have h1 := Host.reduce_andi_eq_one _ _ h hu j e i hi
  have h2 : max (x i : EReal) (-x i) < inf i := lt_of_cmp h1
  rw [hinf] at h2
  exact ⟨_, Cert.Attn.real_of_abs_lt h2⟩

variable [Facts]
open Facts

theorem real_entries (X : FVec Ideal S32768x9216 .bf16) (L : FVec Ideal S4x64 .f32) (g : FVec Ideal S128 .f32)
    (h : fn (F := Ideal) X L g = fun _ => 1#1) :
    (∀ (r : Fin 32768) (k : Fin 9216), 8192 ≤ k.val → ∃ a : ℝ, X (ix2 r k) = (a : EReal)) ∧ ∀ i, ∃ a : ℝ, L i = (a : EReal) := by
  simp only [fn] at h
  have h0 := congrFun h ix0
  obtain ⟨h1, h2⟩ := one_of_and h0
  have v := fun hinf => real_of_all _ _ hinf _ _ _ _ h1
  have l := fun hinf => real_of_all _ _ hinf _ _ _ _ h2
  replace v := v fun _ => top_bf16
  replace l := l fun _ => top_f32
  refine ⟨fun r j hj => ?_, l⟩
  have hlt := j.isLt
  obtain ⟨a, ha⟩ := v (ix2 r ⟨j.val - 8192, by omega⟩)
  refine ⟨a, ?_⟩
  rw [← ha]
  pointwise
  exact congrArg (fun j => X (ix2 r j)) (Fin.ext (by show j.val = 8192 + (j.val - 8192); omega))

end Cert.Pre_finite_values

end
-- ==== Proof.RotaryTables.lean ====
module

public import proofs.«01_k».proof.Defs
public import proofs.«01_k».proof.Proof.Gen.Kernel2Ideal.Value
public import Idealize.ShloMosaic.Lib.Pipeline.ValueKit
public import Idealize.ShloMosaic.Lib.Pointwise
public import Idealize.ShloMosaic.Lib.StableHlo.RunRead

/-!
# Rotary embedding: the arrays the kernel's launch is given

The weight columns in the order the grid walks them, and the three rotation tables.
-/

@[expose] public section

set_option maxRecDepth 16384

noncomputable section

namespace Cert.Kernel2Ideal.Rotary

open Idealize.ShloMosaic Idealize.ShloMosaic.TcCoe Idealize.SL.Sem
open Cert.Kernel2Ideal.Gen

/-- Joining three equal arrays gives equal arrays. -/
theorem cat3 {α : Type} [Inhabited α] {S A B C : Shape} (d : Fin S.rank) {a a' : A.Idx → α} {b b' : B.Idx → α} {e e' : C.Idx → α}
    (h : Shape.Concatenates [A, B, C] S d) (ha : a = a') (hb : b = b') (he : e = e') :
    concatenate S d [⟨A, a⟩, ⟨B, b⟩, ⟨C, e⟩] h = concatenate S d [⟨A, a'⟩, ⟨B, b'⟩, ⟨C, e'⟩] h := by
  subst ha hb he; rfl

/-- Joining two equal arrays gives equal arrays. -/
theorem cat2 {α : Type} [Inhabited α] {S A B : Shape} (d : Fin S.rank) {a a' : A.Idx → α} {b b' : B.Idx → α}
    (h : Shape.Concatenates [A, B] S d) (ha : a = a') (hb : b = b') :
    concatenate S d [⟨A, a⟩, ⟨B, b⟩] h = concatenate S d [⟨A, a'⟩, ⟨B, b'⟩] h := by
  subst ha hb; rfl

/-- The columns of the weights, values last. -/
def columns (w : FVec Ideal S1024x11328 .f32) : FVec Ideal S1024x9216 .bf16 :=
  truncf .bf16 (concatenate S1024x9216 1
    [⟨S1024x2048, extractStridedSlice S1024x2048 ![0, 0] w slices_S1024x11328_S1024x2048_0_0⟩,
      ⟨S1024x6144, extractStridedSlice S1024x6144 ![0, 3072] w slices_S1024x11328_S1024x6144_0_3072⟩,
      ⟨S1024x1024, extractStridedSlice S1024x1024 ![0, 2048] w slices_S1024x11328_S1024x1024_0_2048⟩]
    concatenates_S1024x2048_S1024x6144_S1024x1024_S1024x9216_d1) bitsLt_bf16_f32

/-- The eight rotation frequencies. -/
def freq : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
        (mulf (broadcastInDim S8 ![] bcast_S_S8 (constant S_ .f32 0x40000000#32)) (sitofp .f32 (iotaInDim S8 32 0)))))
      (broadcastInDim S8 ![] bcast_S_S8 (constant S_ .f32 0x41800000#32)))

/-- The angle of every token at every frequency. -/
def angle (p : IVec S4x8192 32) : FVec Ideal S32768x8 .f32 :=
  mulf (broadcastInDim S32768x8 ![0, 1] bcast_S32768x1_S32768x8_0_1
      (broadcastInDim S32768x1 ![0] bcast_S32768_S32768x1_0 (sitofp .f32 (shapeCast S32768 p shapeCasts_S4x8192_S32768))))
    (broadcastInDim S32768x8 ![0, 1] bcast_S1x8_S32768x8_0_1 (broadcastInDim S1x8 ![1] bcast_S8_S1x8_1 freq))

/-- Eight zero columns. -/
def zero8 : FVec Ideal S32768x8 .f32 := broadcastInDim S32768x8 ![] bcast_S_S32768x8 (constant S_ .f32 0x00000000#32)

/-- A column of 48 equal constants. -/
def fill48 (b : BitVec 32) : FVec Ideal S32768x48 .f32 := broadcastInDim S32768x48 ![] bcast_S_S32768x48 (constant S_ .f32 b)

/-- A table of one head's 64 lanes from its three parts. -/
def head (a b : FVec Ideal S32768x8 .f32) (e : FVec Ideal S32768x48 .f32) : FVec Ideal S32768x64 .f32 :=
  concatenate S32768x64 1 [⟨S32768x8, a⟩, ⟨S32768x8, b⟩, ⟨S32768x48, e⟩] concatenates_S32768x8_S32768x8_S32768x48_S32768x64_d1

/-- A head's table, twice. -/
def twice (a : FVec Ideal S32768x64 .f32) : FVec Ideal S32768x128 .f32 :=
  concatenate S32768x128 1 [⟨S32768x64, a⟩, ⟨S32768x64, a⟩] concatenates_S32768x64_S32768x64_S32768x128_d1

variable (m : (ℓ : Loc nD τ sig) → Buf (Elt Ideal) ℓ) (c : Dev nD)

/-- The launch is given the reordered weights. -/
theorem V_columns : V m c main_v33 = columns (m ((c : Thread nD τ).loc main_arg1)) := by
  unfold V
  after_reads_simp
  unfold columns
  congr 1

/-- The table of cosines. -/
theorem V_cos : V m c main_v26 = twice (head (Host.cos (angle (m ((c : Thread nD τ).loc main_arg2)))) (Host.cos (angle (m ((c : Thread nD τ).loc main_arg2)))) (fill48 0x3F800000#32)) := by
  unfold V
  after_reads_simp
  unfold twice
  have h : StableHlo.upto hostOps0 (fun b => m (c, b)) 33 (Proc.tc.devRef main_v22) = head (Host.cos (angle (m ((c : Thread nD τ).loc main_arg2)))) (Host.cos (angle (m ((c : Thread nD τ).loc main_arg2)))) (fill48 0x3F800000#32) := by
    after_reads_simp
    refine cat3 1 _ ?_ ?_ ?_
    · show StableHlo.upto hostOps0 (fun b => m (c, b)) 29 (Proc.tc.devRef main_v17) = _
      after_reads_simp
      try rfl
    · show StableHlo.upto hostOps0 (fun b => m (c, b)) 29 (Proc.tc.devRef main_v17) = _
      after_reads_simp
      try rfl
    · show StableHlo.upto hostOps0 (fun b => m (c, b)) 29 (Proc.tc.devRef main_v19) = _
      after_reads_simp
      try rfl
  exact cat2 1 _ h h

/-- The table of sines for the lane eight below. -/
theorem V_sin : V m c main_v27 = twice (head zero8 (Host.sin (angle (m ((c : Thread nD τ).loc main_arg2)))) (fill48 0x00000000#32)) := by
  unfold V
  after_reads_simp
  unfold twice
  have h : StableHlo.upto hostOps0 (fun b => m (c, b)) 34 (Proc.tc.devRef main_v23) = head zero8 (Host.sin (angle (m ((c : Thread nD τ).loc main_arg2)))) (fill48 0x00000000#32) := by
    after_reads_simp
    refine cat3 1 _ ?_ ?_ ?_
    · show StableHlo.upto hostOps0 (fun b => m (c, b)) 30 (Proc.tc.devRef main_v20) = _
      after_reads_simp
      try rfl
    · show StableHlo.upto hostOps0 (fun b => m (c, b)) 30 (Proc.tc.devRef main_v18) = _
      after_reads_simp
      try rfl
    · show StableHlo.upto hostOps0 (fun b => m (c, b)) 30 (Proc.tc.devRef main_v21) = _
      after_reads_simp
      try rfl
  exact cat2 1 _ h h

/-- The table of negated sines for the lane eight above. -/
theorem V_nsin : V m c main_v28 = twice (head (Host.negf (Host.sin (angle (m ((c : Thread nD τ).loc main_arg2))))) zero8 (fill48 0x00000000#32)) := by
  unfold V
  after_reads_simp
  unfold twice
  have h : StableHlo.upto hostOps0 (fun b => m (c, b)) 35 (Proc.tc.devRef main_v25) = head (Host.negf (Host.sin (angle (m ((c : Thread nD τ).loc main_arg2))))) zero8 (fill48 0x00000000#32) := by
    after_reads_simp
    refine cat3 1 _ ?_ ?_ ?_
    · show StableHlo.upto hostOps0 (fun b => m (c, b)) 32 (Proc.tc.devRef main_v24) = _
      after_reads_simp
      try rfl
    · show StableHlo.upto hostOps0 (fun b => m (c, b)) 32 (Proc.tc.devRef main_v20) = _
      after_reads_simp
      try rfl
    · show StableHlo.upto hostOps0 (fun b => m (c, b)) 32 (Proc.tc.devRef main_v21) = _
      after_reads_simp
      try rfl
  exact cat2 1 _ h h

/-- A column of the reordered weights is a column of the weights. -/
theorem columns_apply (w : FVec Ideal S1024x11328 .f32) (z : Fin 1024) (n : Fin 9216) :
    columns w (ix2 z n) = if n.val < 2048 then w (ix2 z ⟨n.val, by omega⟩)
      else if h : n.val < 8192 then w (ix2 z ⟨n.val + 1024, by omega⟩) else w (ix2 z ⟨n.val - 6144, by omega⟩) := by
  pointwise [columns]
  have hn := n.isLt
  by_cases h1 : n.val < 2048
  · rw [dif_pos h1, if_pos h1]
  · rw [dif_neg h1, if_neg h1]
    by_cases h2 : n.val < 8192
    · rw [dif_pos (show n.val - 2048 < 6144 by omega), dif_pos h2]
      exact congrArg (fun q => w (ix2 z q)) (Fin.ext (by simp; omega))
    · rw [dif_neg (show ¬n.val - 2048 < 6144 by omega), dif_neg h2]
      exact congrArg (fun q => w (ix2 z q)) (Fin.ext (by simp; omega))

/-- A rotation table at a lane. -/
theorem twice_apply (a b : FVec Ideal S32768x8 .f32) (e : FVec Ideal S32768x48 .f32) (r : Fin 32768) (l : Fin 128) :
    twice (head a b e) (ix2 r l) = if h : l.val % 64 < 8 then a (ix2 r ⟨l.val % 64, h⟩)
      else if h : l.val % 64 < 16 then b (ix2 r ⟨l.val % 64 - 8, by omega⟩) else e (ix2 r ⟨l.val % 64 - 16, by omega⟩) := by
  pointwise [twice, head]
  have hl := l.isLt
  by_cases h : l.val < 64
  · have e0 : l.val % 64 = l.val := Nat.mod_eq_of_lt h
    rw [dif_pos h]
    by_cases h1 : l.val < 8
    · rw [dif_pos h1, dif_pos (show l.val % 64 < 8 by omega)]
      exact congrArg (fun q => a (ix2 r q)) (Fin.ext (by simp; omega))
    · rw [dif_neg h1, dif_neg (show ¬l.val % 64 < 8 by omega)]
      by_cases h2 : l.val < 16
      · rw [dif_pos (show l.val - 8 < 8 by omega), dif_pos (show l.val % 64 < 16 by omega)]
        exact congrArg (fun q => b (ix2 r q)) (Fin.ext (by simp; omega))
      · rw [dif_neg (show ¬l.val - 8 < 8 by omega), dif_neg (show ¬l.val % 64 < 16 by omega)]
        exact congrArg (fun q => e (ix2 r q)) (Fin.ext (by simp; omega))
  · have e0 : l.val % 64 = l.val - 64 := by omega
    rw [dif_neg h]
    by_cases h1 : l.val - 64 < 8
    · rw [dif_pos h1, dif_pos (show l.val % 64 < 8 by omega)]
      exact congrArg (fun q => a (ix2 r q)) (Fin.ext (by simp; omega))
    · rw [dif_neg h1, dif_neg (show ¬l.val % 64 < 8 by omega)]
      by_cases h2 : l.val - 64 < 16
      · rw [dif_pos (show l.val - 64 - 8 < 8 by omega), dif_pos (show l.val % 64 < 16 by omega)]
        exact congrArg (fun q => b (ix2 r q)) (Fin.ext (by simp; omega))
      · rw [dif_neg (show ¬l.val - 64 - 8 < 8 by omega), dif_neg (show ¬l.val % 64 < 16 by omega)]
        exact congrArg (fun q => e (ix2 r q)) (Fin.ext (by simp; omega))

theorem fill_zero (r : Fin 32768) (l : Fin 48) : fill48 0x00000000#32 (ix2 r l) = 0 := by
  pointwise [fill48]

theorem fill_one (r : Fin 32768) (l : Fin 48) : fill48 0x3F800000#32 (ix2 r l) = 1 := by
  pointwise [fill48]

theorem zero8_apply (r : Fin 32768) (l : Fin 8) : zero8 (ix2 r l) = 0 := by
  pointwise [zero8]

/-- The cosine of a token's angle at a frequency. -/
def cosAt (p : IVec S4x8192 32) (r : Fin 32768) (d : ℕ) : EReal :=
  if h : d < 8 then Ideal.cos (angle p (ix2 r ⟨d, h⟩)) else 0

/-- The sine of a token's angle at a frequency. -/
def sinAt (p : IVec S4x8192 32) (r : Fin 32768) (d : ℕ) : EReal :=
  if h : d < 8 then Ideal.sin (angle p (ix2 r ⟨d, h⟩)) else 0

theorem cos_table (p : IVec S4x8192 32) (r : Fin 32768) (l : Fin 128) :
    twice (head (Host.cos (angle p)) (Host.cos (angle p)) (fill48 0x3F800000#32)) (ix2 r l)
      = if l.val % 64 < 8 then cosAt p r (l.val % 64) else if l.val % 64 < 16 then cosAt p r (l.val % 64 - 8) else 1 := by
  rw [twice_apply]
  split_ifs with h1 h2
  · rw [cosAt, dif_pos h1]; rfl
  · rw [cosAt, dif_pos (by omega)]; rfl
  · exact fill_one _ _

theorem sin_table (p : IVec S4x8192 32) (r : Fin 32768) (l : Fin 128) :
    twice (head zero8 (Host.sin (angle p)) (fill48 0x00000000#32)) (ix2 r l)
      = if l.val % 64 < 8 then 0 else if l.val % 64 < 16 then sinAt p r (l.val % 64 - 8) else 0 := by
  rw [twice_apply]
  split_ifs with h1 h2
  · exact zero8_apply _ _
  · rw [sinAt, dif_pos (by omega)]; rfl
  · exact fill_zero _ _

theorem nsin_table (p : IVec S4x8192 32) (r : Fin 32768) (l : Fin 128) :
    twice (head (Host.negf (Host.sin (angle p))) zero8 (fill48 0x00000000#32)) (ix2 r l)
      = if l.val % 64 < 8 then -sinAt p r (l.val % 64) else 0 := by
  rw [twice_apply]
  split_ifs with h1 h2
  · rw [sinAt, dif_pos h1]; rfl
  · exact zero8_apply _ _
  · exact fill_zero _ _

end Cert.Kernel2Ideal.Rotary

end
-- ==== Proof.RotaryBlock.lean ====
module

public import proofs.«01_k».proof.Defs
public import proofs.«01_k».proof.Proof.Gen.Kernel2Ideal.Value
public import Idealize.ShloMosaic.Lib.Pipeline.ValueKit
public import Idealize.ShloMosaic.Lib.Pointwise

/-!
# Rotary embedding: one block

A block of the kernel holds the product of its rows and columns; in the query and key columns each group of 128 lanes
is turned by the tables.
-/

@[expose] public section

set_option maxRecDepth 16384

noncomputable section

namespace Cert.Kernel2Ideal.Rotary

open Idealize.ShloMosaic Idealize.ShloMosaic.TcCoe Idealize.SL.Sem
open Cert.Kernel2Ideal.Gen

/-- A lane turned: itself by the first table, the lane eight below by the second, the lane eight above by the third. -/
def turn (P : FVec Ideal S512x1024 .f32) (A B C : FVec Ideal S512x128 .f32) (r : Fin 512) (e : Fin 1024) : EReal :=
  P (ix2 r e) * A (ix2 r ⟨e.val % 128, by omega⟩)
    + P (ix2 r ⟨e.val / 128 * 128 + (e.val % 128 + 120) % 128, by omega⟩) * B (ix2 r ⟨e.val % 128, by omega⟩)
    + P (ix2 r ⟨e.val / 128 * 128 + (e.val % 128 + 8) % 128, by omega⟩) * C (ix2 r ⟨e.val % 128, by omega⟩)

/-- One group of 128 lanes as the kernel computes it. -/
theorem group (P : FVec Ideal S512x1024 .f32) (A B C : FVec Ideal S512x128 .f32) (k : ℕ) (off : ℕ) (hs : S512x1024.Slices ![0, off] S512x128)
    (hk : off = k * 128) (hk8 : k < 8) (y : S512x128.Idx) (r : Fin 512) (e : Fin 1024) (h0 : r.val = (y 0).val) (h1 : e.val = off + (y 1).val) :
    truncf .bf16 (addf (addf (mulf (extractStridedSlice S512x128 ![0, off] P hs) A)
        (mulf (dynamicRotate 1 8#32 none (extractStridedSlice S512x128 ![0, off] P hs) rotates_S512x128_d1) B))
      (mulf (dynamicRotate 1 120#32 none (extractStridedSlice S512x128 ![0, off] P hs) rotates_S512x128_d1) C)) bitsLt_bf16_f32 y
      = turn P A B C r e := by
  idx_vars y
  obtain rfl : r = y0 := Fin.ext h0
  have h1 : e.val = off + y1.val := h1
  have hy := y1.isLt
  have hm : e.val % 128 = y1.val := by omega
  have hd : e.val / 128 * 128 = off := by omega
  pointwise [turn]
  have hP : ∀ q q' : Fin 1024, q.val = q'.val → P (ix2 r q) = P (ix2 r q') := fun _ _ h => by rw [Fin.ext h]
  have hT : ∀ (X : FVec Ideal S512x128 .f32) (q q' : Fin 128), q.val = q'.val → X (ix2 r q) = X (ix2 r q') := fun _ _ _ h => by
    rw [Fin.ext h]
  exact congrArg₂ (· + ·) (congrArg₂ (· + ·)
      (congrArg₂ (· * ·) (hP _ _ (by simp; omega)) (hT A _ _ (by simp; omega)))
      (congrArg₂ (· * ·) (hP _ _ (by simp; omega)) (hT B _ _ (by simp; omega))))
    (congrArg₂ (· * ·) (hP _ _ (by simp; omega)) (hT C _ _ (by simp; omega)))

theorem acc_apply (x0 : Vec Ideal S512x1024 .bf16) (x1 : Vec Ideal S1024x1024 .bf16) (r : Fin 512) (e : Fin 1024) :
    k0_pay1 x0 x1 (ix2 r e) = ∑ z : Fin 1024, x0 (ix2 r z) * x1 (ix2 z e) := by
  pointwise [k0_pay1]

theorem plain_apply (x0 : Vec Ideal S512x1024 .bf16) (x1 : Vec Ideal S1024x1024 .bf16) (r : Fin 512) (e : Fin 1024) :
    k0_pay2 x0 x1 (ix2 r e) = ∑ z : Fin 1024, x0 (ix2 r z) * x1 (ix2 z e) := by
  pointwise [k0_pay2, k0_pay1]

theorem scale6 (w : BitVec 32) (x : Vec Ideal S512x128 .f32) (r : Fin 512) (l : Fin 128) :
    k0_pay6 w x (ix2 r l) = x (ix2 r l) * k0_pay5 (F := Ideal) w := by
  pointwise [k0_pay6]

theorem scale7 (w : BitVec 32) (x : Vec Ideal S512x128 .f32) (r : Fin 512) (l : Fin 128) :
    k0_pay7 w x (ix2 r l) = x (ix2 r l) * k0_pay5 (F := Ideal) w := by
  pointwise [k0_pay7]

theorem scale8 (w : BitVec 32) (x : Vec Ideal S512x128 .f32) (r : Fin 512) (l : Fin 128) :
    k0_pay8 w x (ix2 r l) = x (ix2 r l) * k0_pay5 (F := Ideal) w := by
  pointwise [k0_pay8]

theorem scale_zero : k0_pay5 (F := Ideal) 0#32 = Ideal.ofBits .f32 0x3E38AA3B#32 := rfl

theorem scale_one : k0_pay5 (F := Ideal) 1#32 = 1 := by
  have : Scalar.cmpi .eq 1#32 0#32 = 0#1 := by decide
  pointwise [k0_pay5]
  rw [this]
  rfl

variable (m : (ℓ : Loc nD τ sig) → Buf (Elt Ideal) ℓ) (c : Dev nD)

theorem turnedAt (t : Fin cfg0.N) (h0 : ¬128 ≤ t.val) (h1 : t.val < 128) (r : Fin 512) (e : Fin 1024) :
    outsAt0 m c t.val t.isLt (ix2 r e)
      = turn (k0_pay1 (iblk m c 0 t) (iblk m c 1 t)) (k0_pay6 (BitVec.ofNat 32 (grid0.coords t 0).val) (iblk m c 2 t))
          (k0_pay7 (BitVec.ofNat 32 (grid0.coords t 0).val) (iblk m c 3 t)) (k0_pay8 (BitVec.ofNat 32 (grid0.coords t 0).val) (iblk m c 4 t)) r e := by
  rw [outsAt0_A m c t h0 h1]
  frame_out
  canon_tiles y h
  · exact group _ _ _ _ 7 896 slices_S512x1024_o0_896_S512x128 rfl (by decide) y r e (by simp at h0; omega) (by simp at h1; omega)
  · exact group _ _ _ _ 6 768 slices_S512x1024_o0_768_S512x128 rfl (by decide) y r e (by simp at h0; omega) (by simp at h1; omega)
  · exact group _ _ _ _ 5 640 slices_S512x1024_o0_640_S512x128 rfl (by decide) y r e (by simp at h0; omega) (by simp at h1; omega)
  · exact group _ _ _ _ 4 512 slices_S512x1024_o0_512_S512x128 rfl (by decide) y r e (by simp at h0; omega) (by simp at h1; omega)
  · exact group _ _ _ _ 3 384 slices_S512x1024_o0_384_S512x128 rfl (by decide) y r e (by simp at h0; omega) (by simp at h1; omega)
  · exact group _ _ _ _ 2 256 slices_S512x1024_o0_256_S512x128 rfl (by decide) y r e (by simp at h0; omega) (by simp at h1; omega)
  · exact group _ _ _ _ 1 128 slices_S512x1024_o0_128_S512x128 rfl (by decide) y r e (by simp at h0; omega) (by simp at h1; omega)
  · exact group _ _ _ _ 0 0 slices_S512x1024_o0_0_S512x128 rfl (by decide) y r e (by simp at h0; omega) (by simp at h1; omega)

theorem plainAt (t : Fin cfg0.N) (h0 : 128 ≤ t.val) (h1 : ¬ t.val < 128) (r : Fin 512) (e : Fin 1024) :
    outsAt0 m c t.val t.isLt (ix2 r e) = k0_pay2 (iblk m c 0 t) (iblk m c 1 t) (ix2 r e) := by
  rw [outsAt0_B m c t h0 h1]
  frame_out

end Cert.Kernel2Ideal.Rotary

end
-- ==== Proof.RotaryMath.lean ====
module

public import Idealize.ShloMosaic.Lib.Pipeline.ValueKit
public import Idealize.ShloMosaic.Lib.Pointwise

/-!
# Rotary embedding: the number at one place

`turned` turns the first sixteen lanes of every 64 in pairs eight apart; `placed` is the whole row of projections, queries
turned and scaled, keys turned, then the recurrence's projections, then the values.
-/

@[expose] public section

noncomputable section

namespace Cert.Rotary

open Idealize.ShloMosaic

/-- The scale of the queries. -/
def qs : EReal := Ideal.ofBits .f32 0x3E38AA3B#32

theorem qs_nonneg : (0 : EReal) ≤ qs ∧ qs ≠ ⊤ := by
  unfold qs
  simp [Ideal.ofBits, Ideal.ieee]
  rw [← EReal.coe_mul]
  exact ⟨EReal.coe_nonneg.2 (by positivity), EReal.coe_ne_top _⟩

/-- Lane `n` of a row turned. -/
def turned (T cs sn : ℕ → EReal) (n : ℕ) : EReal :=
  if n % 64 < 8 then T n * cs (n % 64) - T (n + 8) * sn (n % 64)
  else if n % 64 < 16 then T n * cs (n % 64 - 8) + T (n - 8) * sn (n % 64 - 8) else T n

/-- Lane `n` of the result's row. -/
def placed (T cs sn : ℕ → EReal) (n : ℕ) : EReal :=
  if n < 1024 then turned T cs sn n * qs else if n < 2048 then turned T cs sn n
  else if n < 8192 then T (n + 1024) else T (n - 6144)

theorem pair_low (a b e x y s : EReal) (h : 0 ≤ s) (h' : s ≠ ⊤) : a * (x * s) + b * (0 * s) + e * (-y * s) = (a * x - e * y) * s := by
  rw [zero_mul, mul_zero, add_zero, sub_eq_add_neg, EReal.right_distrib_of_nonneg_of_ne_top h h', ← mul_assoc, ← mul_assoc,
    mul_comm e (-y), EReal.neg_mul, mul_comm y e]

theorem pair_high (a b e x y s : EReal) (h : 0 ≤ s) (h' : s ≠ ⊤) : a * (x * s) + b * (y * s) + e * (0 * s) = (a * x + b * y) * s := by
  rw [zero_mul, mul_zero, add_zero, EReal.right_distrib_of_nonneg_of_ne_top h h', ← mul_assoc, ← mul_assoc]

theorem kept (a b e s : EReal) : a * (1 * s) + b * (0 * s) + e * (0 * s) = a * s := by
  rw [zero_mul, mul_zero, mul_zero, add_zero, add_zero, one_mul]

end Cert.Rotary

end
-- ==== Proof.RotaryRef.lean ====
module

public import proofs.«01_k».proof.Defs
public import proofs.«01_k».proof.Proof.Gen.Reference2Ideal.Run
public import proofs.«01_k».proof.Proof.RotaryMath
public import Idealize.ShloMosaic.Lib.Pipeline.ValueKit
public import Idealize.ShloMosaic.Lib.Pointwise

/-!
# Rotary embedding: the reference, stage by stage
-/

@[expose] public section

set_option maxRecDepth 16384

noncomputable section

namespace Cert.Reference2Ideal.Value

open Idealize.ShloMosaic Idealize.ShloMosaic.TcCoe Idealize.SL.Sem
open Cert.Reference2Ideal Cert.Reference2Ideal.Gen

/-- All projections of all tokens. -/
def refProj (h : FVec Ideal S32768x1024 .bf16) (w : FVec Ideal S1024x11328 .f32) : FVec Ideal S4x8192x11328 .f32 :=
  shapeCast _ (Host.dotGeneral dot_S32768x1024_S1024x11328_S32768x11328_1_0_0_1_n_n none (extf .f32 h bitsLt_bf16_f32) w)
    shapeCasts_S32768x11328_S4x8192x11328

/-- The eight rotation frequencies. -/
def refFreq : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
        (mulf (broadcastInDim S8 ![] bcast_S_S8 (constant S_ .f32 0x40000000#32)) (sitofp .f32 (iotaInDim S8 32 0)))))
      (broadcastInDim S8 ![] bcast_S_S8 (constant S_ .f32 0x41800000#32)))

/-- The angle of every token at every frequency. -/
def refAngle (p : IVec S4x8192 32) : FVec Ideal S4x8192x8 .f32 :=
  mulf (broadcastInDim S4x8192x8 ![0, 1, 2] bcast_S4x8192x1_S4x8192x8_0_1_2
      (broadcastInDim S4x8192x1 ![0, 1] bcast_S4x8192_S4x8192x1_0_1 (sitofp .f32 p)))
    (broadcastInDim S4x8192x8 ![0, 1, 2] bcast_S1x1x8_S4x8192x8_0_1_2 (broadcastInDim S1x1x8 ![2] bcast_S8_S1x1x8_2 refFreq))

/-- A table of angles spread over the heads. -/
def refSpread (a : FVec Ideal S4x8192x8 .f32) : FVec Ideal S4x8192x8x2x8 .f32 :=
  broadcastInDim S4x8192x8x2x8 ![0, 1, 2, 3, 4] bcast_S4x8192x1x1x8_S4x8192x8x2x8_0_1_2_3_4
    (broadcastInDim S4x8192x1x1x8 ![0, 1, 4] bcast_S4x8192x8_S4x8192x1x1x8_0_1_4 a)

/-- Heads turned by their angles: the first sixteen lanes in pairs eight apart, the others kept. -/
def refTurn (x : FVec Ideal S4x8192x8x2x64 .f32) (a : FVec Ideal S4x8192x8 .f32) : FVec Ideal S4x8192x8x2x64 .f32 :=
  concatenate S4x8192x8x2x64 4
    [⟨S4x8192x8x2x8, subf (mulf (extractStridedSlice S4x8192x8x2x8 ![0, 0, 0, 0, 0] x slices_S4x8192x8x2x64_S4x8192x8x2x8_0_0_0_0_0) (refSpread (Host.cos a)))
        (mulf (extractStridedSlice S4x8192x8x2x8 ![0, 0, 0, 0, 8] x slices_S4x8192x8x2x64_S4x8192x8x2x8_0_0_0_0_8) (refSpread (Host.sin a)))⟩,
      ⟨S4x8192x8x2x8, addf (mulf (extractStridedSlice S4x8192x8x2x8 ![0, 0, 0, 0, 8] x slices_S4x8192x8x2x64_S4x8192x8x2x8_0_0_0_0_8) (refSpread (Host.cos a)))
        (mulf (extractStridedSlice S4x8192x8x2x8 ![0, 0, 0, 0, 0] x slices_S4x8192x8x2x64_S4x8192x8x2x8_0_0_0_0_0) (refSpread (Host.sin a)))⟩,
      ⟨S4x8192x8x2x48, extractStridedSlice S4x8192x8x2x48 ![0, 0, 0, 0, 16] x slices_S4x8192x8x2x64_S4x8192x8x2x48_0_0_0_0_16⟩]
    concatenates_S4x8192x8x2x8_S4x8192x8x2x8_S4x8192x8x2x48_S4x8192x8x2x64_d4

/-- The queries, turned and scaled. -/
def refQ (u : FVec Ideal S4x8192x11328 .f32) (a : FVec Ideal S4x8192x8 .f32) : FVec Ideal S4x8192x1024 .f32 :=
  shapeCast _ (mulf (refTurn (shapeCast _ (extractStridedSlice S4x8192x1024 ![0, 0, 0] u slices_S4x8192x11328_S4x8192x1024_0_0_0) shapeCasts_S4x8192x1024_S4x8192x8x2x64) a)
    (broadcastInDim S4x8192x8x2x64 ![] bcast_S_S4x8192x8x2x64 (constant S_ .f32 0x3E38AA3B#32))) shapeCasts_S4x8192x8x2x64_S4x8192x1024

/-- The keys, turned. -/
def refK (u : FVec Ideal S4x8192x11328 .f32) (a : FVec Ideal S4x8192x8 .f32) : FVec Ideal S4x8192x1024 .f32 :=
  shapeCast _ (refTurn (shapeCast _ (extractStridedSlice S4x8192x1024 ![0, 0, 1024] u slices_S4x8192x11328_S4x8192x1024_0_0_1024) shapeCasts_S4x8192x1024_S4x8192x8x2x64) a)
    shapeCasts_S4x8192x8x2x64_S4x8192x1024

/-- The four parts side by side. -/
def refParts (q k : FVec Ideal S4x8192x1024 .f32) (z : FVec Ideal S4x8192x6144 .f32) (v : FVec Ideal S4x8192x1024 .f32) : FVec Ideal S32768x9216 .bf16 :=
  truncf .bf16 (shapeCast _ (concatenate S4x8192x9216 2 [⟨S4x8192x1024, q⟩, ⟨S4x8192x1024, k⟩, ⟨S4x8192x6144, z⟩, ⟨S4x8192x1024, v⟩]
    concatenates_S4x8192x1024_S4x8192x1024_S4x8192x6144_S4x8192x1024_S4x8192x9216_d2) shapeCasts_S4x8192x9216_S32768x9216) bitsLt_bf16_f32

/-- The reference's result from the projections and the angles. -/
def refOut (u : FVec Ideal S4x8192x11328 .f32) (a : FVec Ideal S4x8192x8 .f32) : FVec Ideal S32768x9216 .bf16 :=
  refParts (refQ u a) (refK u a) (extractStridedSlice S4x8192x6144 ![0, 0, 3072] u slices_S4x8192x11328_S4x8192x6144_0_0_3072)
    (extractStridedSlice S4x8192x1024 ![0, 0, 2048] u slices_S4x8192x11328_S4x8192x1024_0_0_2048)

/-- The reference's result from its arguments. -/
def ref (h : FVec Ideal S32768x1024 .bf16) (w : FVec Ideal S1024x11328 .f32) (p : IVec S4x8192 32) : FVec Ideal S32768x9216 .bf16 :=
  refOut (refProj h w) (refAngle p)

theorem out_eq (m : (ℓ : Loc nD τ sig) → Buf (Elt Ideal) ℓ) (c : Dev nD) :
    res_out0 (F := Ideal) m c = ref (m ((c.tc : Thread nD τ).loc main_arg0)) (m ((c.tc : Thread nD τ).loc main_arg1)) (m ((c.tc : Thread nD τ).loc main_arg2)) := rfl

/-- Column `n` of a token's projections. -/
def refCol (u : FVec Ideal S4x8192x11328 .f32) (b : Fin 4) (s : Fin 8192) (n : ℕ) : EReal :=
  if h : n < 11328 then u (ix3 b s ⟨n, h⟩) else 0

/-- The cosine of a token's angle. -/
def refCos (a : FVec Ideal S4x8192x8 .f32) (b : Fin 4) (s : Fin 8192) (d : ℕ) : EReal :=
  if h : d < 8 then Ideal.cos (a (ix3 b s ⟨d, h⟩)) else 0

/-- The sine of a token's angle. -/
def refSin (a : FVec Ideal S4x8192x8 .f32) (b : Fin 4) (s : Fin 8192) (d : ℕ) : EReal :=
  if h : d < 8 then Ideal.sin (a (ix3 b s ⟨d, h⟩)) else 0

theorem refCol_eq (u : FVec Ideal S4x8192x11328 .f32) (b : Fin 4) (s : Fin 8192) (n : ℕ) (q : Fin 11328) (h : q.val = n) :
    u (ix3 b s q) = refCol u b s n := by
  subst h; rw [refCol, dif_pos q.isLt]

theorem refCos_eq (a : FVec Ideal S4x8192x8 .f32) (b : Fin 4) (s : Fin 8192) (n : ℕ) (q : Fin 8) (h : q.val = n) :
    Ideal.cos (a (ix3 b s q)) = refCos a b s n := by
  subst h; rw [refCos, dif_pos q.isLt]

theorem refSin_eq (a : FVec Ideal S4x8192x8 .f32) (b : Fin 4) (s : Fin 8192) (n : ℕ) (q : Fin 8) (h : q.val = n) :
    Ideal.sin (a (ix3 b s q)) = refSin a b s n := by
  subst h; rw [refSin, dif_pos q.isLt]

/-- A turned head at a lane, its row given by columns `off, off + 1, …` of the projections. -/
theorem refTurn_apply (X : FVec Ideal S4x8192x8x2x64 .f32) (a : FVec Ideal S4x8192x8 .f32) (T : ℕ → EReal) (b : Fin 4) (s : Fin 8192) (h : Fin 8)
    (k : Fin 2) (off : ℕ) (hoff : off % 64 = 0) (hX : ∀ d : Fin 64, X (ix5 b s h k d) = T (off + d.val)) (d : Fin 64) :
    refTurn X a (ix5 b s h k d) = Cert.Rotary.turned T (refCos a b s) (refSin a b s) (off + d.val) := by
  pointwise [refTurn, refSpread]
  have hd := d.isLt
  have hm : (off + d.val) % 64 = d.val := by omega
  rw [Cert.Rotary.turned, hm]
  by_cases h1 : d.val < 8
  · rw [dif_pos h1, if_pos h1, hX, hX, refCos_eq a b s d.val _ rfl, refSin_eq a b s d.val _ rfl]
    exact congrArg (fun q => _ - T q * _) (by simp; omega)
  · rw [dif_neg h1, if_neg h1]
    by_cases h2 : d.val < 16
    · rw [dif_pos (show d.val - 8 < 8 by omega), if_pos h2, hX, hX, refCos_eq a b s (d.val - 8) _ rfl, refSin_eq a b s (d.val - 8) _ rfl]
      exact congrArg₂ (fun q q' => T q * _ + T q' * _) (by simp; omega) (by simp; omega)
    · rw [dif_neg (show ¬d.val - 8 < 8 by omega), if_neg h2, hX]
      exact congrArg T (by simp; omega)

theorem refQ_apply (u : FVec Ideal S4x8192x11328 .f32) (a : FVec Ideal S4x8192x8 .f32) (b : Fin 4) (s : Fin 8192) (n : Fin 1024) :
    refQ u a (ix3 b s n) = Cert.Rotary.turned (refCol u b s) (refCos a b s) (refSin a b s) n.val * Cert.Rotary.qs := by
  pointwise [refQ]
  rw [refTurn_apply _ a (refCol u b s) b s _ _ (n.val / 64 * 64) (by omega)]
  · exact congrArg (fun q => Cert.Rotary.turned _ _ _ q * _) (by simp; omega)
  · intro d
    have := d.isLt
    pointwise
    exact refCol_eq _ _ _ _ _ (by simp; omega)

theorem refK_apply (u : FVec Ideal S4x8192x11328 .f32) (a : FVec Ideal S4x8192x8 .f32) (b : Fin 4) (s : Fin 8192) (n : Fin 1024) :
    refK u a (ix3 b s n) = Cert.Rotary.turned (refCol u b s) (refCos a b s) (refSin a b s) (1024 + n.val) := by
  pointwise [refK]
  rw [refTurn_apply _ a (refCol u b s) b s _ _ (1024 + n.val / 64 * 64) (by omega)]
  · exact congrArg (fun q => Cert.Rotary.turned _ _ _ q) (by simp; omega)
  · intro d
    have := d.isLt
    pointwise
    exact refCol_eq _ _ _ _ _ (by simp; omega)

/-- The reference's result at a place. -/
theorem refOut_apply (u : FVec Ideal S4x8192x11328 .f32) (a : FVec Ideal S4x8192x8 .f32) (r : Fin 32768) (n : Fin 9216) (b : Fin 4) (s : Fin 8192)
    (hb : b.val = r.val / 8192) (hs : s.val = r.val % 8192) :
    refOut u a (ix2 r n) = Cert.Rotary.placed (refCol u b s) (refCos a b s) (refSin a b s) n.val := by
  obtain rfl : b = ⟨r.val / 8192, Nat.div_lt_of_lt_mul r.isLt⟩ := Fin.ext hb
  obtain rfl : s = ⟨r.val % 8192, Nat.mod_lt _ (by decide)⟩ := Fin.ext hs
  have hn := n.isLt
  unfold refOut Cert.Rotary.placed
  pointwise [refParts]
  by_cases h1 : n.val < 1024
  · rw [dif_pos h1, if_pos h1, refQ_apply]
  · rw [dif_neg h1, if_neg h1]
    by_cases h2 : n.val < 2048
    · rw [dif_pos (show n.val - 1024 < 1024 by omega), if_pos h2, refK_apply]
      exact congrArg (fun q => Cert.Rotary.turned _ _ _ q) (by simp; omega)
    · rw [dif_neg (show ¬n.val - 1024 < 1024 by omega), if_neg h2]
      by_cases h3 : n.val < 8192
      · rw [dif_pos (show n.val - 1024 - 1024 < 6144 by omega), if_pos h3]
        exact refCol_eq _ _ _ _ _ (by simp; omega)
      · rw [dif_neg (show ¬n.val - 1024 - 1024 < 6144 by omega), if_neg h3]
        exact refCol_eq _ _ _ _ _ (by simp; omega)

theorem refProj_apply (h : FVec Ideal S32768x1024 .bf16) (w : FVec Ideal S1024x11328 .f32) (b : Fin 4) (s : Fin 8192) (n : Fin 11328)
    (r : Fin 32768) (hr : r.val = b.val * 8192 + s.val) :
    refProj h w (ix3 b s n) = ∑ z : Fin 1024, h (ix2 r z) * w (ix2 z n) := by
  obtain rfl : r = ⟨b.val * 8192 + s.val, by clear hr; omega⟩ := Fin.ext hr
  pointwise [refProj]

end Cert.Reference2Ideal.Value

end
-- ==== Proof.RotaryValue.lean ====
module

public import proofs.«01_k».proof.Defs
public import proofs.«01_k».proof.Proof.Gen.Kernel2Ideal.Value
public import proofs.«01_k».proof.Proof.RotaryTables
public import proofs.«01_k».proof.Proof.RotaryBlock
public import proofs.«01_k».proof.Proof.RotaryRef
public import Idealize.ShloMosaic.Lib.Pipeline.ValueKit
public import Idealize.ShloMosaic.Lib.Pointwise

/-!
# Rotary embedding: kernel and reference hold the same array
-/

@[expose] public section

set_option maxRecDepth 16384

noncomputable section

namespace Cert.Kernel2Ideal.Rotary

open Idealize.ShloMosaic Idealize.ShloMosaic.TcCoe Idealize.SL.Sem
open Cert.Kernel2Ideal.Gen Cert.Rotary

theorem idx : ∀ t : Fin cfg0.N, win0_0.index t = ![t.val % 64, 0] ∧ win0_1.index t = ![0, t.val / 64]
    ∧ win0_2.index t = ![t.val % 64, 0] ∧ win0_3.index t = ![t.val % 64, 0] ∧ win0_4.index t = ![t.val % 64, 0]
    ∧ win0_5.index t = ![t.val % 64, t.val / 64] :=
  (by decide +kernel : ∀ t : Fin grid0.N, _)

theorem block_bit : ∀ t : Fin cfg0.N, BitVec.ofNat 32 (grid0.coords t 0).val = BitVec.ofNat 32 (t.val / 64) :=
  (by decide +kernel : ∀ t : Fin grid0.N, _)

/-- Column `n` of a row of the product. -/
def feat (h : FVec Ideal S32768x1024 .bf16) (w : FVec Ideal S1024x11328 .f32) (r : Fin 32768) (n : ℕ) : EReal :=
  if hn : n < 11328 then ∑ z : Fin 1024, h (ix2 r z) * w (ix2 z ⟨n, hn⟩) else 0

/-- What the output array holds. -/
def result (h : FVec Ideal S32768x1024 .bf16) (w : FVec Ideal S1024x11328 .f32) (p : IVec S4x8192 32) : FVec Ideal S32768x9216 .bf16 := fun i =>
  placed (feat h w (i 0)) (cosAt p (i 0)) (sinAt p (i 0)) (i 1).val

theorem result_at (h : FVec Ideal S32768x1024 .bf16) (w : FVec Ideal S1024x11328 .f32) (p : IVec S4x8192 32) (j : S32768x9216.Idx)
    (r : Fin 32768) (n : ℕ) (h0 : (j 0).val = r.val) (h1 : (j 1).val = n) :
    result h w p j = placed (feat h w r) (cosAt p r) (sinAt p r) n := by
  subst h1
  idx_vars j
  obtain rfl : j0 = r := Fin.ext h0
  rfl

/-- A turned lane of a block is the turned lane of the row, scaled. -/
theorem turn_eq (P : FVec Ideal S512x1024 .f32) (A B C : FVec Ideal S512x128 .f32) (r : Fin 512) (e : Fin 1024) (T cs sn : ℕ → EReal) (s : EReal)
    (j : ℕ) (hs : 0 ≤ s) (hs' : s ≠ ⊤) (hP : ∀ q : Fin 1024, P (ix2 r q) = T (j * 1024 + q.val))
    (hA : ∀ l : Fin 128, A (ix2 r l) = (if l.val % 64 < 8 then cs (l.val % 64) else if l.val % 64 < 16 then cs (l.val % 64 - 8) else 1) * s)
    (hB : ∀ l : Fin 128, B (ix2 r l) = (if l.val % 64 < 8 then 0 else if l.val % 64 < 16 then sn (l.val % 64 - 8) else 0) * s)
    (hC : ∀ l : Fin 128, C (ix2 r l) = (if l.val % 64 < 8 then -sn (l.val % 64) else 0) * s) :
    turn P A B C r e = turned T cs sn (j * 1024 + e.val) * s := by
  have he := e.isLt
  have hm : e.val % 128 % 64 = (j * 1024 + e.val) % 64 := by omega
  rw [turn, turned, hP, hP, hP, hA, hB, hC]
  dsimp only
  rw [hm]
  by_cases h1 : (j * 1024 + e.val) % 64 < 8
  · rw [if_pos h1, if_pos h1, if_pos h1, if_pos h1, pair_low _ _ _ _ _ _ hs hs']
    exact congrArg (fun q => (_ - T q * _) * _) (by omega)
  · rw [if_neg h1, if_neg h1, if_neg h1, if_neg h1]
    by_cases h2 : (j * 1024 + e.val) % 64 < 16
    · rw [if_pos h2, if_pos h2, if_pos h2, pair_high _ _ _ _ _ _ hs hs']
      exact congrArg (fun q => (_ + T q * _) * _) (by omega)
    · rw [if_neg h2, if_neg h2, if_neg h2, kept]

variable (m : (ℓ : Loc nD τ sig) → Buf (Elt Ideal) ℓ) (c : Dev nD)

theorem lt (t : Fin cfg0.N) : t.val < 576 := t.isLt

theorem rows (t : Fin cfg0.N) (r : Fin 512) (x : Fin 1024) :
    iblk m c 0 t (ix2 r x) = m ((c : Thread nD τ).loc main_arg0) (ix2 ⟨t.val % 64 * 512 + r.val, by omega⟩ x) := by
  blk_ext [iblk, V, idx t]

theorem cols (t : Fin cfg0.N) (z e : Fin 1024) :
    iblk m c 1 t (ix2 z e) = columns (m ((c : Thread nD τ).loc main_arg1)) (ix2 z ⟨t.val / 64 * 1024 + e.val, by have := lt t; omega⟩) := by
  blk_simp [iblk, idx t]
  rw [V_columns]
  blk_ext [idx t]

theorem table2 (t : Fin cfg0.N) (r : Fin 512) (l : Fin 128) :
    iblk m c 2 t (ix2 r l) = twice (head (Host.cos (angle (m ((c : Thread nD τ).loc main_arg2)))) (Host.cos (angle (m ((c : Thread nD τ).loc main_arg2)))) (fill48 0x3F800000#32))
      (ix2 ⟨t.val % 64 * 512 + r.val, by omega⟩ l) := by
  blk_simp [iblk, idx t]
  rw [V_cos]
  blk_ext [idx t]

theorem table3 (t : Fin cfg0.N) (r : Fin 512) (l : Fin 128) :
    iblk m c 3 t (ix2 r l) = twice (head zero8 (Host.sin (angle (m ((c : Thread nD τ).loc main_arg2)))) (fill48 0x00000000#32))
      (ix2 ⟨t.val % 64 * 512 + r.val, by omega⟩ l) := by
  blk_simp [iblk, idx t]
  rw [V_sin]
  blk_ext [idx t]

theorem table4 (t : Fin cfg0.N) (r : Fin 512) (l : Fin 128) :
    iblk m c 4 t (ix2 r l) = twice (head (Host.negf (Host.sin (angle (m ((c : Thread nD τ).loc main_arg2))))) zero8 (fill48 0x00000000#32))
      (ix2 ⟨t.val % 64 * 512 + r.val, by omega⟩ l) := by
  blk_simp [iblk, idx t]
  rw [V_nsin]
  blk_ext [idx t]

/-- The columns of the weights at a column of the result. -/
theorem sum_columns (h : Fin 1024 → EReal) (w : FVec Ideal S1024x11328 .f32) (n : Fin 9216) :
    ∑ z : Fin 1024, h z * columns w (ix2 z n) = if n.val < 2048 then ∑ z : Fin 1024, h z * w (ix2 z ⟨n.val, by omega⟩)
      else if hn : n.val < 8192 then ∑ z : Fin 1024, h z * w (ix2 z ⟨n.val + 1024, by omega⟩)
      else ∑ z : Fin 1024, h z * w (ix2 z ⟨n.val - 6144, by omega⟩) := by
  simp only [columns_apply]
  split_ifs <;> rfl

/-- The product of a block. -/
theorem product (t : Fin cfg0.N) (r : Fin 512) (e : Fin 1024) (R : Fin 32768) (hR : R.val = t.val % 64 * 512 + r.val) (n : ℕ)
    (hn : n = t.val / 64 * 1024 + e.val) :
    (∑ z : Fin 1024, (show EReal from iblk m c 0 t (ix2 r z)) * (show EReal from iblk m c 1 t (ix2 z e)))
      = feat (m ((c : Thread nD τ).loc main_arg0)) (m ((c : Thread nD τ).loc main_arg1)) R
          (if n < 2048 then n else if n < 8192 then n + 1024 else n - 6144) := by
  have ht := lt t
  have he := e.isLt
  obtain rfl : R = ⟨t.val % 64 * 512 + r.val, by clear hR; omega⟩ := Fin.ext hR
  simp only [rows, cols]
  rw [sum_columns]
  subst hn
  split_ifs <;> (rw [feat, dif_pos (by omega)])

theorem turned_block (t : Fin cfg0.N) (h1 : t.val < 128) (r : Fin 512) (e : Fin 1024) (R : Fin 32768) (hR : R.val = t.val % 64 * 512 + r.val) :
    outsAt0 m c t.val t.isLt (ix2 r e)
      = turned (feat (m ((c : Thread nD τ).loc main_arg0)) (m ((c : Thread nD τ).loc main_arg1)) R)
          (cosAt (m ((c : Thread nD τ).loc main_arg2)) R) (sinAt (m ((c : Thread nD τ).loc main_arg2)) R) (t.val / 64 * 1024 + e.val)
        * k0_pay5 (F := Ideal) (BitVec.ofNat 32 (t.val / 64)) := by
  have hs : (0 : EReal) ≤ k0_pay5 (F := Ideal) (BitVec.ofNat 32 (t.val / 64)) ∧ (k0_pay5 (F := Ideal) (BitVec.ofNat 32 (t.val / 64)) : EReal) ≠ ⊤ := by
    obtain h | h : t.val / 64 = 0 ∨ t.val / 64 = 1 := by omega
    · rw [h]; exact qs_nonneg
    · rw [h, scale_one]; exact ⟨zero_le_one, EReal.coe_ne_top 1⟩
  have hRr : (⟨t.val % 64 * 512 + r.val, by clear hR; omega⟩ : Fin 32768) = R := Fin.ext hR.symm
  rw [turnedAt m c t (by omega) h1, block_bit t]
  refine turn_eq _ _ _ _ r e _ _ _ _ (t.val / 64) hs.1 hs.2 ?_ ?_ ?_ ?_
  · intro q
    have hq := q.isLt
    rw [acc_apply]
    refine (product m c t r q R hR _ rfl).trans ?_
    rw [if_pos (by omega)]
  · intro l
    rw [scale6, table2, cos_table, hRr]
  · intro l
    rw [scale7, table3, sin_table, hRr]
  · intro l
    rw [scale8, table4, nsin_table, hRr]

theorem block (t : Fin cfg0.N) (r : Fin 512) (e : Fin 1024) (R : Fin 32768) (hR : R.val = t.val % 64 * 512 + r.val) :
    outsAt0 m c t.val t.isLt (ix2 r e)
      = placed (feat (m ((c : Thread nD τ).loc main_arg0)) (m ((c : Thread nD τ).loc main_arg1)) R)
          (cosAt (m ((c : Thread nD τ).loc main_arg2)) R) (sinAt (m ((c : Thread nD τ).loc main_arg2)) R) (t.val / 64 * 1024 + e.val) := by
  have ht := lt t
  have he := e.isLt
  by_cases h1 : t.val < 128
  · rw [turned_block m c t h1 r e R hR, placed]
    obtain h | h : t.val / 64 = 0 ∨ t.val / 64 = 1 := by omega
    · rw [h, if_pos (by omega)]; rfl
    · rw [h, if_neg (by omega), if_pos (by omega), scale_one, mul_one]
  · rw [plainAt m c t (by omega) h1, plain_apply]
    refine (product m c t r e R hR _ rfl).trans ?_
    have h2 : ¬t.val / 64 * 1024 + e.val < 2048 := by omega
    rw [placed, if_neg h2, if_neg (show ¬t.val / 64 * 1024 + e.val < 1024 by omega), if_neg h2]
    by_cases h3 : t.val / 64 * 1024 + e.val < 8192
    · rw [if_pos h3, if_pos h3]
    · rw [if_neg h3, if_neg h3]

theorem final : (dats m 0 c).arrAt 5 cfg0.N
    = result (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  idx_vars y
  have ht := lt t
  rw [block m c t _ _ ⟨t.val % 64 * 512 + y0.val, by omega⟩ rfl]
  refine (result_at _ _ _ _ _ _ ?_ ?_).symm
  · blk_simp [idx t]
  · blk_simp [idx t]

theorem ref_eq (h : FVec Ideal S32768x1024 .bf16) (w : FVec Ideal S1024x11328 .f32) (p : IVec S4x8192 32) :
    Cert.Reference2Ideal.Value.ref h w p = result h w p := by
  funext i
  idx_vars i
  have hi := i0.isLt
  rw [Cert.Reference2Ideal.Value.ref, Cert.Reference2Ideal.Value.refOut_apply _ _ _ _ ⟨i0.val / 8192, by omega⟩ ⟨i0.val % 8192, by omega⟩ rfl rfl]
  have ha : ∀ d : Fin 8, Cert.Reference2Ideal.Value.refAngle p (ix3 ⟨i0.val / 8192, by omega⟩ ⟨i0.val % 8192, by omega⟩ d) = angle p (ix2 i0 d) := by
    intro d
    pointwise [Cert.Reference2Ideal.Value.refAngle, Cert.Reference2Ideal.Value.refFreq, angle, freq]
  have e1 : Cert.Reference2Ideal.Value.refCol (Cert.Reference2Ideal.Value.refProj h w) ⟨i0.val / 8192, by omega⟩ ⟨i0.val % 8192, by omega⟩ = feat h w i0 := by
    funext n
    unfold Cert.Reference2Ideal.Value.refCol feat
    split_ifs
    · exact Cert.Reference2Ideal.Value.refProj_apply h w _ _ _ i0 (by simp; omega)
    · rfl
  have e2 : Cert.Reference2Ideal.Value.refCos (Cert.Reference2Ideal.Value.refAngle p) ⟨i0.val / 8192, by omega⟩ ⟨i0.val % 8192, by omega⟩ = cosAt p i0 := by
    funext d
    unfold Cert.Reference2Ideal.Value.refCos cosAt
    split_ifs
    · rw [ha]
    · rfl
  have e3 : Cert.Reference2Ideal.Value.refSin (Cert.Reference2Ideal.Value.refAngle p) ⟨i0.val / 8192, by omega⟩ ⟨i0.val % 8192, by omega⟩ = sinAt p i0 := by
    funext d
    unfold Cert.Reference2Ideal.Value.refSin sinAt
    split_ifs
    · rw [ha]
    · rfl
  rw [e1, e2, e3]
  rfl

/-- Every run of the kernel and of the reference on the same arguments ends with the same result. -/
theorem algebraic : Cert.algebraic_Kernel2Ideal_Reference2Ideal := fun m g m' g' _ hagree => by
  refine ⟨fun c => result (m ((c.tc : Thread nD τ).loc main_arg0)) (m ((c.tc : Thread nD τ).loc main_arg1)) (m ((c.tc : Thread nD τ).loc main_arg2)), ?_, ?_⟩
  · exact (θ_run Cert.Kernel2Ideal.defs _ _).mono (fun r h c => ⟨(h c).1.trans (final m c), (h c).2⟩) (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    refine (Cert.Reference2Ideal.Value.out_eq m' c).trans ?_
    rw [(hagree c).1, (hagree c).2.1, (hagree c).2.2]
    exact ref_eq _ _ _

end Cert.Kernel2Ideal.Rotary

end
-- ==== Proof.TailMath.lean ====
module

public import Idealize.ShloMosaic.Lib.Pipeline.ValueKit
public import Idealize.ShloMosaic.Lib.Pointwise

/-!
# End of the mixers: the numbers

The recurrence's row is gated by its own branch and normed; the two branches are projected, weighted by their gates, added
and projected once more; the residual is added.
-/

@[expose] public section

set_option maxRecDepth 16384

noncomputable section

namespace Cert.Tail

open Idealize.ShloMosaic

/-- The gated row of the recurrence: both directions and the skip, by the branch's own gate. -/
def gated (yf yb d xs z : Fin 2048 → EReal) (n : Fin 2048) : EReal :=
  (yf n + yb n + d n * xs n) * (z n * Ideal.logistic (z n))

/-- The same, normed and scaled. -/
def normed (yf yb d xs z g : Fin 2048 → EReal) (n : Fin 2048) : EReal :=
  gated yf yb d xs z n
    * Ideal.rsqrt (Ideal.div (∑ k, gated yf yb d xs z k * gated yf yb d xs z k) (Ideal.ofBits .f32 0x45000000#32) + Ideal.ofBits .f32 0x358637BD#32)
    * g n

/-- The branches weighted by their gates: attention `a`, the recurrence's row `u`. -/
def merged (a : Fin 1024 → EReal) (wa : Fin 1024 → Fin 1024 → EReal) (u : Fin 2048 → EReal) (ws : Fin 2048 → Fin 1024 → EReal)
    (ga gs : Fin 1024 → EReal) (k : Fin 1024) : EReal :=
  Ideal.logistic (ga k) * ∑ z, a z * wa z k + Ideal.logistic (gs k) * ∑ z, u z * ws z k

end Cert.Tail

end
-- ==== Proof.TailBlock.lean ====
module

public import proofs.«01_k».proof.Defs
public import proofs.«01_k».proof.Proof.Gen.Kernel3Ideal.Value
public import proofs.«01_k».proof.Proof.TailMath
public import Idealize.ShloMosaic.Lib.Pipeline.ValueKit
public import Idealize.ShloMosaic.Lib.Pointwise

/-!
# End of the mixers: one block
-/

@[expose] public section

set_option maxRecDepth 16384

noncomputable section

namespace Cert.Kernel3Ideal.Tail

open Idealize.ShloMosaic Idealize.ShloMosaic.TcCoe Idealize.SL.Sem
open Cert.Kernel3Ideal.Gen Cert.Tail

theorem norm_apply (z yf yb : Vec Ideal S256x2048 .bf16) (d : Vec Ideal S1x2048 .f32) (xs : Vec Ideal S256x2048 .bf16) (g : Vec Ideal S1x2048 .f32)
    (r : Fin 256) (n : Fin 2048) :
    k0_pay2 z yf yb d xs g (ix2 r n) = normed (fun k => yf (ix2 r k)) (fun k => yb (ix2 r k)) (fun k => d (ix2 0 k)) (fun k => xs (ix2 r k))
      (fun k => z (ix2 r k)) (fun k => g (ix2 0 k)) n := by
  pointwise [k0_pay2, normed, gated]

theorem att_apply (a : Vec Ideal S256x1024 .bf16) (w : Vec Ideal S1024x1024 .bf16) (r : Fin 256) (k : Fin 1024) :
    k0_pay3 a w (ix2 r k) = ∑ z : Fin 1024, a (ix2 r z) * w (ix2 z k) := by
  pointwise [k0_pay3]

theorem out_apply (u : FVec Ideal S256x2048 .bf16) (a : FVec Ideal S256x1024 .f32) (w : Vec Ideal S2048x1024 .bf16) (ga : Vec Ideal S256x1024 .f32)
    (ba : Vec Ideal S1x1024 .f32) (gs : Vec Ideal S256x1024 .f32) (bs : Vec Ideal S1x1024 .f32) (x : Vec Ideal S256x1024 .f32)
    (wo : Vec Ideal S1024x1024 .bf16) (r : Fin 256) (e : Fin 1024) :
    k0_pay1 u a w ga ba gs bs x wo (ix2 r e) = x (ix2 r e) + ∑ k : Fin 1024,
      (Ideal.logistic (ga (ix2 r k) + ba (ix2 0 k)) * a (ix2 r k) + Ideal.logistic (gs (ix2 r k) + bs (ix2 0 k)) * ∑ z : Fin 2048, u (ix2 r z) * w (ix2 z k))
        * wo (ix2 k e) := by
  pointwise [k0_pay1]

variable (m : (ℓ : Loc nD τ sig) → Buf (Elt Ideal) ℓ) (c : Dev nD)

/-- A block as the kernel's two steps leave it. -/
theorem opened (t : Fin cfg0.N) (r : Fin 256) (e : Fin 1024) :
    outsAt0 m c t (ix2 r e) = k0_pay1 (k0_pay2 (X0_3 m c t) (iblk m c 0 t) (iblk m c 1 t) (iblk m c 4 t) (iblk m c 2 t) (iblk m c 5 t))
      (k0_pay3 (iblk m c 6 t) (iblk m c 7 t)) (iblk m c 8 t) (iblk m c 10 t) (iblk m c 12 t) (iblk m c 11 t)
      (iblk m c 13 t) (iblk m c 14 t) (iblk m c 9 t) (ix2 r e) := by
  unfold outsAt0
  frame_out

theorem idx : ∀ t : Fin cfg0.N, win0_0.index t = ![t.val, 0] ∧ win0_1.index t = ![t.val, 0] ∧ win0_2.index t = ![t.val, 0]
    ∧ win0_3.index t = ![t.val, 1] ∧ win0_4.index t = ![0, 0] ∧ win0_5.index t = ![0, 0] ∧ win0_6.index t = ![t.val, 0]
    ∧ win0_7.index t = ![0, 0] ∧ win0_8.index t = ![0, 0] ∧ win0_9.index t = ![0, 0] ∧ win0_10.index t = ![t.val, 0]
    ∧ win0_11.index t = ![t.val, 1] ∧ win0_12.index t = ![0, 0] ∧ win0_13.index t = ![0, 1] ∧ win0_14.index t = ![t.val, 0]
    ∧ win0_15.index t = ![t.val, 0] :=
  (by decide +kernel : ∀ t : Fin grid0.N, _)

theorem lt (t : Fin cfg0.N) : t.val < 128 := t.isLt

/-- The token of a block's row. -/
def token (t : Fin cfg0.N) (r : Fin 256) : Fin 32768 := ⟨t.val * 256 + r.val, by have := lt t; omega⟩

theorem fwd (t : Fin cfg0.N) (r : Fin 256) (n : Fin 2048) :
    iblk m c 0 t (ix2 r n) = m ((c : Thread nD τ).loc main_arg0) (ix2 (token t r) n) := by
  blk_ext [iblk, V, idx t, token]

theorem bwd (t : Fin cfg0.N) (r : Fin 256) (n : Fin 2048) :
    iblk m c 1 t (ix2 r n) = m ((c : Thread nD τ).loc main_arg1) (ix2 (token t r) n) := by
  blk_ext [iblk, V, idx t, token]

theorem conv (t : Fin cfg0.N) (r : Fin 256) (n : Fin 2048) :
    iblk m c 2 t (ix2 r n) = m ((c : Thread nD τ).loc main_arg2) (ix2 (token t r) ⟨n.val, by omega⟩) := by
  blk_ext [iblk, V, idx t, token]

theorem gate (t : Fin cfg0.N) (r : Fin 256) (n : Fin 2048) :
    X0_3 m c t (ix2 r n) = m ((c : Thread nD τ).loc main_arg3) (ix2 (token t r) ⟨2048 + n.val, by omega⟩) := by
  unfold X0_3 Pipeline.Window.fill
  rw [dif_pos (moved0_3 t _)]
  blk_ext [iblk, V, idx t, token]

theorem skip (t : Fin cfg0.N) (n : Fin 2048) :
    iblk m c 4 t (ix2 0 n) = m ((c : Thread nD τ).loc main_arg4) (ix1 ⟨n.val / 64, by omega⟩) := by
  blk_simp [iblk, idx t]
  entry_read
  pointwise
  blk_ext [idx t]

theorem scale (t : Fin cfg0.N) (n : Fin 2048) :
    iblk m c 5 t (ix2 0 n) = m ((c : Thread nD τ).loc main_arg5) (ix1 n) := by
  blk_simp [iblk, idx t]
  entry_read
  pointwise
  blk_ext [idx t]

theorem att (t : Fin cfg0.N) (r : Fin 256) (n : Fin 1024) :
    iblk m c 6 t (ix2 r n) = m ((c : Thread nD τ).loc main_arg6) (ix2 (token t r) n) := by
  blk_ext [iblk, V, idx t, token]

theorem watt (t : Fin cfg0.N) (z n : Fin 1024) :
    iblk m c 7 t (ix2 z n) = m ((c : Thread nD τ).loc main_arg7) (ix2 z n) := by
  blk_simp [iblk, idx t]
  entry_read
  pointwise
  blk_ext [idx t]

theorem wssm (t : Fin cfg0.N) (z : Fin 2048) (n : Fin 1024) :
    iblk m c 8 t (ix2 z n) = m ((c : Thread nD τ).loc main_arg8) (ix2 z n) := by
  blk_simp [iblk, idx t]
  entry_read
  pointwise
  blk_ext [idx t]

theorem wout (t : Fin cfg0.N) (z n : Fin 1024) :
    iblk m c 9 t (ix2 z n) = m ((c : Thread nD τ).loc main_arg9) (ix2 z n) := by
  blk_simp [iblk, idx t]
  entry_read
  pointwise
  blk_ext [idx t]

theorem gatt (t : Fin cfg0.N) (r : Fin 256) (n : Fin 1024) :
    iblk m c 10 t (ix2 r n) = m ((c : Thread nD τ).loc main_arg10) (ix2 (token t r) ⟨n.val, by omega⟩) := by
  blk_ext [iblk, V, idx t, token]

theorem gssm (t : Fin cfg0.N) (r : Fin 256) (n : Fin 1024) :
    iblk m c 11 t (ix2 r n) = m ((c : Thread nD τ).loc main_arg10) (ix2 (token t r) ⟨1024 + n.val, by omega⟩) := by
  blk_ext [iblk, V, idx t, token]

theorem batt (t : Fin cfg0.N) (n : Fin 1024) :
    iblk m c 12 t (ix2 0 n) = m ((c : Thread nD τ).loc main_arg11) (ix1 ⟨n.val, by omega⟩) := by
  blk_simp [iblk, idx t]
  entry_read
  pointwise
  blk_ext [idx t]

theorem bssm (t : Fin cfg0.N) (n : Fin 1024) :
    iblk m c 13 t (ix2 0 n) = m ((c : Thread nD τ).loc main_arg11) (ix1 ⟨1024 + n.val, by omega⟩) := by
  blk_simp [iblk, idx t]
  entry_read
  pointwise
  blk_ext [idx t]

theorem resid (t : Fin cfg0.N) (r : Fin 256) (n : Fin 1024) :
    iblk m c 14 t (ix2 r n) = m ((c : Thread nD τ).loc main_arg12) (ix2 (token t r) n) := by
  blk_ext [iblk, V, idx t, token]

end Cert.Kernel3Ideal.Tail

end
-- ==== Proof.TailRef.lean ====
module

public import proofs.«01_k».proof.Defs
public import proofs.«01_k».proof.Proof.Gen.Reference3Ideal.Run
public import proofs.«01_k».proof.Proof.TailMath
public import Idealize.ShloMosaic.Lib.Pipeline.ValueKit
public import Idealize.ShloMosaic.Lib.Pointwise

/-!
# End of the mixers: the reference, stage by stage
-/

@[expose] public section

set_option maxRecDepth 16384

noncomputable section

namespace Cert.Reference3Ideal.Value

open Idealize.ShloMosaic Idealize.ShloMosaic.TcCoe Idealize.SL.Sem
open Cert.Reference3Ideal Cert.Reference3Ideal.Gen

/-- The logistic function written out. -/
def refSigmoid (x : FVec Ideal S32768x2048 .f32) : FVec Ideal S32768x2048 .f32 :=
  Host.divf (broadcastInDim S32768x2048 ![] bcast_S_S32768x2048 (constant S_ .f32 0x3F800000#32))
    (addf (broadcastInDim S32768x2048 ![] bcast_S_S32768x2048 (constant S_ .f32 0x3F800000#32)) (Host.exp (Host.negf x)))

/-- The branch's gate. -/
def refZ (p : FVec Ideal S32768x9216 .bf16) : FVec Ideal S32768x2048 .f32 :=
  extf .f32 (extractStridedSlice S32768x2048 ![0, 2048] p slices_S32768x9216_S32768x2048_0_2048) bitsLt_bf16_f32

/-- Both directions and the skip. -/
def refY (yf yb : FVec Ideal S32768x2048 .bf16) (xc : FVec Ideal S32768x4096 .bf16) (d : FVec Ideal S32 .f32) : FVec Ideal S32768x2048 .f32 :=
  addf (addf (extf .f32 yf bitsLt_bf16_f32) (extf .f32 yb bitsLt_bf16_f32))
    (shapeCast _ (mulf (broadcastInDim S32768x32x64 ![0, 1, 2] bcast_S1x32x1_S32768x32x64_0_1_2
          (broadcastInDim S1x32x1 ![1, 2] bcast_S32x1_S1x32x1_1_2 (broadcastInDim S32x1 ![0] bcast_S32_S32x1_0 d)))
        (shapeCast _ (extf .f32 (extractStridedSlice S32768x2048 ![0, 0] xc slices_S32768x4096_S32768x2048_0_0) bitsLt_bf16_f32)
          shapeCasts_S32768x2048_S32768x32x64)) shapeCasts_S32768x32x64_S32768x2048)

/-- The gated row. -/
def refGated (yf yb : FVec Ideal S32768x2048 .bf16) (xc : FVec Ideal S32768x4096 .bf16) (p : FVec Ideal S32768x9216 .bf16) (d : FVec Ideal S32 .f32) :
    FVec Ideal S32768x2048 .f32 :=
  mulf (refY yf yb xc d) (mulf (refZ p) (refSigmoid (refZ p)))

/-- A row normed and scaled. -/
def refNorm (u : FVec Ideal S32768x2048 .f32) (g : FVec Ideal S2048 .f32) : FVec Ideal S32768x2048 .f32 :=
  mulf (mulf u (broadcastInDim S32768x2048 ![0, 1] bcast_S32768x1_S32768x2048_0_1 (Host.rsqrt (addf
      (Host.divf (broadcastInDim S32768x1 ![0] bcast_S32768_S32768x1_0
          (Host.reduceAdd (mulf u u) (constant S_ .f32 0x00000000#32) reducesTo_S32768x2048_S32768_d1 h_S_))
        (broadcastInDim S32768x1 ![] bcast_S_S32768x1 (constant S_ .f32 0x45000000#32)))
      (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 g))

/-- The gates of both branches. -/
def refGates (l : FVec Ideal S32768x2048 .f32) (b : FVec Ideal S2048 .f32) : FVec Ideal S32768x2048 .f32 :=
  refSigmoid (addf l (broadcastInDim S32768x2048 ![0, 1] bcast_S1x2048_S32768x2048_0_1 (broadcastInDim S1x2048 ![1] bcast_S2048_S1x2048_1 b)))

/-- The branches projected, weighted and added. -/
def refMerged (s : FVec Ideal S32768x2048 .f32) (att : FVec Ideal S32768x1024 .bf16) (wa : FVec Ideal S1024x1024 .f32)
    (u : FVec Ideal S32768x2048 .f32) (ws : FVec Ideal S2048x1024 .f32) : FVec Ideal S32768x1024 .f32 :=
  addf (mulf (extractStridedSlice S32768x1024 ![0, 0] s slices_S32768x2048_S32768x1024_0_0)
      (Host.dotGeneral dot_S32768x1024_S1024x1024_S32768x1024_1_0_0_1_n_n none (extf .f32 att bitsLt_bf16_f32) wa))
    (mulf (extractStridedSlice S32768x1024 ![0, 1024] s slices_S32768x2048_S32768x1024_0_1024)
      (Host.dotGeneral dot_S32768x2048_S2048x1024_S32768x1024_1_0_0_1_n_n none u ws))

/-- The output projection and the residual. -/
def refOut (x : FVec Ideal S32768x1024 .f32) (v : FVec Ideal S32768x1024 .f32) (wo : FVec Ideal S1024x1024 .f32) : FVec Ideal S32768x1024 .f32 :=
  addf x (Host.dotGeneral dot_S32768x1024_S1024x1024_S32768x1024_1_0_0_1_n_n none v wo)

theorem out_eq (m : (ℓ : Loc nD τ sig) → Buf (Elt Ideal) ℓ) (c : Dev nD) :
    res_out0 (F := Ideal) m c = refOut (m ((c.tc : Thread nD τ).loc main_arg12))
      (refMerged (refGates (m ((c.tc : Thread nD τ).loc main_arg10)) (m ((c.tc : Thread nD τ).loc main_arg11)))
        (m ((c.tc : Thread nD τ).loc main_arg6)) (m ((c.tc : Thread nD τ).loc main_arg7))
        (refNorm (refGated (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))) (m ((c.tc : Thread nD τ).loc main_arg5)))
        (m ((c.tc : Thread nD τ).loc main_arg8)))
      (m ((c.tc : Thread nD τ).loc main_arg9)) := rfl

theorem refSigmoid_apply (x : FVec Ideal S32768x2048 .f32) (r : Fin 32768) (n : Fin 2048) :
    refSigmoid x (ix2 r n) = Ideal.logistic (x (ix2 r n)) := by
  pointwise [refSigmoid]
  rfl

theorem refGated_apply (yf yb : FVec Ideal S32768x2048 .bf16) (xc : FVec Ideal S32768x4096 .bf16) (p : FVec Ideal S32768x9216 .bf16) (d : FVec Ideal S32 .f32)
    (r : Fin 32768) (n : Fin 2048) :
    refGated yf yb xc p d (ix2 r n) = Cert.Tail.gated (fun k => yf (ix2 r k)) (fun k => yb (ix2 r k)) (fun k => d (ix1 ⟨k.val / 64, by omega⟩))
      (fun k => xc (ix2 r ⟨k.val, by omega⟩)) (fun k => p (ix2 r ⟨2048 + k.val, by omega⟩)) n := by
  pointwise [refGated, refY]
  rw [refSigmoid_apply]
  pointwise [refZ, Cert.Tail.gated]

theorem refNorm_apply (u : FVec Ideal S32768x2048 .f32) (g : FVec Ideal S2048 .f32) (r : Fin 32768) (n : Fin 2048) :
    refNorm u g (ix2 r n) = u (ix2 r n) * Ideal.rsqrt (Ideal.div (∑ k : Fin 2048, u (ix2 r k) * u (ix2 r k)) (Ideal.ofBits .f32 0x45000000#32)
      + Ideal.ofBits .f32 0x358637BD#32) * g (ix1 n) := by
  pointwise [refNorm]

theorem refGates_apply (l : FVec Ideal S32768x2048 .f32) (b : FVec Ideal S2048 .f32) (r : Fin 32768) (n : Fin 2048) :
    refGates l b (ix2 r n) = Ideal.logistic (l (ix2 r n) + b (ix1 n)) := by
  rw [refGates, refSigmoid_apply]
  pointwise

theorem refMerged_apply (s : FVec Ideal S32768x2048 .f32) (att : FVec Ideal S32768x1024 .bf16) (wa : FVec Ideal S1024x1024 .f32)
    (u : FVec Ideal S32768x2048 .f32) (ws : FVec Ideal S2048x1024 .f32) (r : Fin 32768) (k : Fin 1024) :
    refMerged s att wa u ws (ix2 r k) = s (ix2 r ⟨k.val, by omega⟩) * ∑ z : Fin 1024, att (ix2 r z) * wa (ix2 z k)
      + s (ix2 r ⟨1024 + k.val, by omega⟩) * ∑ z : Fin 2048, u (ix2 r z) * ws (ix2 z k) := by
  pointwise [refMerged]

theorem refOut_apply (x : FVec Ideal S32768x1024 .f32) (v : FVec Ideal S32768x1024 .f32) (wo : FVec Ideal S1024x1024 .f32) (r : Fin 32768) (e : Fin 1024) :
    refOut x v wo (ix2 r e) = x (ix2 r e) + ∑ k : Fin 1024, v (ix2 r k) * wo (ix2 k e) := by
  pointwise [refOut]

end Cert.Reference3Ideal.Value

end
-- ==== Proof.TailValue.lean ====
module

public import proofs.«01_k».proof.Defs
public import proofs.«01_k».proof.Proof.TailBlock
public import proofs.«01_k».proof.Proof.TailRef
public import Idealize.ShloMosaic.Lib.Pipeline.ValueKit
public import Idealize.ShloMosaic.Lib.Pointwise

/-!
# End of the mixers: the kernel and the reference compute the same
-/

@[expose] public section

set_option maxRecDepth 16384

noncomputable section

namespace Cert.Kernel3Ideal.Tail

open Idealize.ShloMosaic Idealize.ShloMosaic.TcCoe Idealize.SL.Sem
open Cert.Kernel3Ideal.Gen Cert.Tail

/-- The recurrence's row for one token, gated, normed and scaled. -/
def rowNorm (yf yb : FVec Ideal S32768x2048 .bf16) (xc : FVec Ideal S32768x4096 .bf16) (p : FVec Ideal S32768x9216 .bf16)
    (d : FVec Ideal S32 .f32) (g : FVec Ideal S2048 .f32) (R : Fin 32768) : Fin 2048 → EReal :=
  normed (fun k => yf (ix2 R k)) (fun k => yb (ix2 R k)) (fun k => d (ix1 ⟨k.val / 64, by omega⟩)) (fun k => xc (ix2 R ⟨k.val, by omega⟩))
    (fun k => p (ix2 R ⟨2048 + k.val, by omega⟩)) (fun k => g (ix1 k))

/-- The result for one token and one feature. -/
def value (yf : FVec Ideal S32768x2048 .bf16) (yb : FVec Ideal S32768x2048 .bf16) (xc : FVec Ideal S32768x4096 .bf16) (p : FVec Ideal S32768x9216 .bf16) (d : FVec Ideal S32 .f32) (g : FVec Ideal S2048 .f32) (att : FVec Ideal S32768x1024 .bf16) (wa : FVec Ideal S1024x1024 .f32) (ws : FVec Ideal S2048x1024 .f32) (wo : FVec Ideal S1024x1024 .f32) (l : FVec Ideal S32768x2048 .f32) (b : FVec Ideal S2048 .f32) (x : FVec Ideal S32768x1024 .f32)
    (R : Fin 32768) (e : Fin 1024) : EReal :=
  x (ix2 R e) + ∑ k : Fin 1024, merged (fun z => att (ix2 R z)) (fun z k => wa (ix2 z k)) (rowNorm yf yb xc p d g R) (fun z k => ws (ix2 z k))
    (fun k => l (ix2 R ⟨k.val, by omega⟩) + b (ix1 ⟨k.val, by omega⟩)) (fun k => l (ix2 R ⟨1024 + k.val, by omega⟩) + b (ix1 ⟨1024 + k.val, by omega⟩)) k
      * wo (ix2 k e)

/-- The whole result. -/
def result (yf : FVec Ideal S32768x2048 .bf16) (yb : FVec Ideal S32768x2048 .bf16) (xc : FVec Ideal S32768x4096 .bf16) (p : FVec Ideal S32768x9216 .bf16) (d : FVec Ideal S32 .f32) (g : FVec Ideal S2048 .f32) (att : FVec Ideal S32768x1024 .bf16) (wa : FVec Ideal S1024x1024 .f32) (ws : FVec Ideal S2048x1024 .f32) (wo : FVec Ideal S1024x1024 .f32) (l : FVec Ideal S32768x2048 .f32) (b : FVec Ideal S2048 .f32) (x : FVec Ideal S32768x1024 .f32) :
    FVec Ideal S32768x1024 .f32 :=
  fun i => value yf yb xc p d g att wa ws wo l b x ⟨(i 0).val, (i 0).isLt⟩ ⟨(i 1).val, (i 1).isLt⟩

theorem result_at (yf : FVec Ideal S32768x2048 .bf16) (yb : FVec Ideal S32768x2048 .bf16) (xc : FVec Ideal S32768x4096 .bf16) (p : FVec Ideal S32768x9216 .bf16) (d : FVec Ideal S32 .f32) (g : FVec Ideal S2048 .f32) (att : FVec Ideal S32768x1024 .bf16) (wa : FVec Ideal S1024x1024 .f32) (ws : FVec Ideal S2048x1024 .f32) (wo : FVec Ideal S1024x1024 .f32) (l : FVec Ideal S32768x2048 .f32) (b : FVec Ideal S2048 .f32) (x : FVec Ideal S32768x1024 .f32)
    (i : S32768x1024.Idx) (R : Fin 32768) (e : Fin 1024) (h0 : (i 0).val = R.val) (h1 : (i 1).val = e.val) :
    result yf yb xc p d g att wa ws wo l b x i = value yf yb xc p d g att wa ws wo l b x R e := by
  unfold result
  exact congrArg₂ (value yf yb xc p d g att wa ws wo l b x) (Fin.ext h0) (Fin.ext h1)

variable (m : (ℓ : Loc nD τ sig) → Buf (Elt Ideal) ℓ) (c : Dev nD)

theorem block (t : Fin cfg0.N) (r : Fin 256) (e : Fin 1024) :
    outsAt0 m c t (ix2 r e) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (token t r) e := by
  rw [opened, out_apply]
  simp only [norm_apply, att_apply, fwd, bwd, conv, gate, skip, scale, att, watt, wssm, wout, gatt, gssm, batt, bssm, resid]
  rfl

theorem final : (dats m 0 c).arrAt 15 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 15 _ (by decide +kernel) fun t _ y => ?_
  blk_simp
  rw [after0_15]
  idx_vars y
  rw [block]
  refine (result_at _ _ _ _ _ _ _ _ _ _ _ _ _ _ _ _ ?_ ?_).symm
  · blk_simp [idx t, token]
  · blk_simp [idx t, token]

open Cert.Reference3Ideal.Value in
theorem ref_eq (yf : FVec Ideal S32768x2048 .bf16) (yb : FVec Ideal S32768x2048 .bf16) (xc : FVec Ideal S32768x4096 .bf16) (p : FVec Ideal S32768x9216 .bf16) (d : FVec Ideal S32 .f32) (g : FVec Ideal S2048 .f32) (att : FVec Ideal S32768x1024 .bf16) (wa : FVec Ideal S1024x1024 .f32) (ws : FVec Ideal S2048x1024 .f32) (wo : FVec Ideal S1024x1024 .f32) (l : FVec Ideal S32768x2048 .f32) (b : FVec Ideal S2048 .f32) (x : FVec Ideal S32768x1024 .f32) :
    refOut x (refMerged (refGates l b) att wa (refNorm (refGated yf yb xc p d) g) ws) wo = result yf yb xc p d g att wa ws wo l b x := by
  funext i
  idx_vars i
  rw [refOut_apply]
  simp only [refMerged_apply, refGates_apply, refNorm_apply, refGated_apply]
  rfl

/-- Every run of the kernel and of the reference on the same arguments ends with the same result. -/
theorem algebraic : Cert.algebraic_Kernel3Ideal_Reference3Ideal := fun m g m' g' _ hagree => by
  refine ⟨fun c => result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)), ?_, ?_⟩
  · exact (θ_run Cert.Kernel3Ideal.defs _ _).mono (fun r h c => ⟨(h c).1.trans (final m c), (h c).2⟩) (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    refine (Cert.Reference3Ideal.Value.out_eq m' c).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact ref_eq _ _ _ _ _ _ _ _ _ _ _ _ _

end Cert.Kernel3Ideal.Tail

end
-- ==== Proof.ScoresValue.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

/-! # The routing scores' output array

Slot `k` holds the scores of head `k / 2` against its key table `k % 2`, features first: entry (k, j, r) is the product of key `j`
with row `r`'s query of that slot. Grid point `t` writes the columns of 512 rows. -/

namespace Cert.Reference4Ideal.Value

open Cert.Reference4Ideal Cert.Reference4Ideal.Gen Idealize.ShloMosaic

/-- The queries: 128 features for each of 8 heads and 2 tables. -/
def refQuery (h : FVec Ideal S32768x1024 .bf16) (w : FVec Ideal S1024x2048 .f32) : FVec Ideal S32768x8x2x128 .f32 :=
  shapeCast _ (Host.dotGeneral dot_S32768x1024_S1024x2048_S32768x2048_1_0_0_1_n_n none (extf .f32 h bitsLt_bf16_f32) w) shapeCasts_S32768x2048_S32768x8x2x128

/-- The reference's result. -/
def ref (h : FVec Ideal S32768x1024 .bf16) (w : FVec Ideal S1024x2048 .f32) (keys : FVec Ideal S8x2x128x128 .f32) : FVec Ideal S16x128x32768 .f32 :=
  shapeCast _ (transpose S8x2x128x32768 [1, 2, 3, 0] (transpose S32768x8x2x128 [3, 0, 1, 2]
    (Host.dotGeneral dot_S8x2x128x128_S32768x8x2x128_S8x2x128x32768_3_3_2_0_01_12 none keys (refQuery h w))
    transposes_S8x2x128x32768_S32768x8x2x128_3_0_1_2) transposes_S32768x8x2x128_S8x2x128x32768_1_2_3_0) shapeCasts_S8x2x128x32768_S16x128x32768

theorem refQuery_apply (h : FVec Ideal S32768x1024 .bf16) (w : FVec Ideal S1024x2048 .f32) (r : Fin 32768) (a : Fin 8) (b : Fin 2) (d : Fin 128) :
    refQuery h w (ix4 r a b d) = ∑ z : Fin 1024, h (ix2 r z) * w (ix2 z ⟨a * 256 + b * 128 + d, by have := a.isLt; have := b.isLt; have := d.isLt; omega⟩) := by
  pointwise [refQuery]

end Cert.Reference4Ideal.Value

namespace Cert.Kernel4Ideal.Scores

open Idealize.ShloMosaic Idealize.ShloMosaic.TcCoe Idealize.SL.Sem
open Cert.Kernel4Ideal.Gen

theorem idx : ∀ t : Fin cfg0.N, win0_0.index t = ![t.val, 0] ∧ win0_1.index t = ![0, 0]
    ∧ win0_2.index t = ![0, 0, 0] ∧ win0_3.index t = ![0, 0, t.val] :=
  (by decide +kernel : ∀ t : Fin grid0.N, _)

/-- One score, from a row of features and a key. -/
def score (row : Fin 1024 → EReal) (w : Fin 1024 → Fin 2048 → EReal) (key : Fin 128 → EReal) (k : Fin 16) : EReal :=
  ∑ x : Fin 128, key x * ∑ z : Fin 1024, row z * w z ⟨k * 128 + x, by have := k.isLt; have := x.isLt; omega⟩

theorem query_apply (x0 : Vec Ideal S512x1024 .bf16) (x1 : Vec Ideal S1024x2048 .bf16) (r : Fin 512) (q : Fin 2048) :
    k0_pay2 (F := Ideal) x0 x1 (ix2 r q) = ∑ z : Fin 1024, x0 (ix2 r z) * x1 (ix2 z q) := by
  pointwise [k0_pay2]

/-- One slot of a block. -/
theorem slot (v : FVec Ideal S512x2048 .bf16) (keys : Vec Ideal S16x128x128 .bf16) (off k : ℕ) (hs : S512x2048.Slices ![0, off] S512x128)
    (inb : ∀ a, ![k, 0, 0] a + S1x128x128.size a ≤ S16x128x128.size a) (hk : off = k * 128) (x : S1x128x512.Idx) (k' : Fin 16) (j : Fin 128) (r : Fin 512)
    (h0 : k'.val = k) (h1 : j.val = (x 1).val) (h2 : r.val = (x 2).val) :
    k0_pay1 (F := Ideal) (extractStridedSlice S512x128 ![0, off] v hs) (View.ld keys (Rect.unit (s := S16x128x128) ![k, 0, 0] S1x128x128.size inb)) x
      = ∑ z : Fin 128, keys (ix3 k' j z) * v (ix2 r ⟨k'.val * 128 + z, by have := k'.isLt; have := z.isLt; omega⟩) := by
  subst hk
  subst h0
  rw [View.ld_unit]
  idx_vars x
  obtain rfl : j = x1 := Fin.ext h1
  obtain rfl : r = x2 := Fin.ext h2
  pointwise [k0_pay1]

/-- A block, entry by entry. -/
theorem block_apply (x0 : Vec Ideal S512x1024 .bf16) (x1 : Vec Ideal S1024x2048 .bf16) (keys : Vec Ideal S16x128x128 .bf16) (k : Fin 16) (j : Fin 128) (r : Fin 512) :
    out0_3 x0 x1 keys (ix3 k j r) = score (fun z => x0 (ix2 r z)) (fun z q => x1 (ix2 z q)) (fun x => keys (ix3 k j x)) k := by
  have hq : score (fun z => x0 (ix2 r z)) (fun z q => x1 (ix2 z q)) (fun x => keys (ix3 k j x)) k
      = ∑ z : Fin 128, keys (ix3 k j z) * k0_pay2 (F := Ideal) x0 x1 (ix2 r ⟨k.val * 128 + z, by have := k.isLt; have := z.isLt; omega⟩) :=
    Finset.sum_congr rfl fun z _ => by rw [query_apply]
  rw [hq, out0_3, k0_pay22, View.ld_unit_zero (by decide), View.ld_unit_zero (by decide)]
  canon_tiles y h
  · exact slot (k0_pay2 x0 x1) keys 1920 15 slices_S512x2048_o0_1920_S512x128 inb_S16x128x128_S1x128x128_15_0_0 rfl y k j r (by simp at h0 y0_lt; omega) h1 h2
  · exact slot (k0_pay2 x0 x1) keys 1792 14 slices_S512x2048_o0_1792_S512x128 inb_S16x128x128_S1x128x128_14_0_0 rfl y k j r (by simp at h0 y0_lt; omega) h1 h2
  · exact slot (k0_pay2 x0 x1) keys 1664 13 slices_S512x2048_o0_1664_S512x128 inb_S16x128x128_S1x128x128_13_0_0 rfl y k j r (by simp at h0 y0_lt; omega) h1 h2
  · exact slot (k0_pay2 x0 x1) keys 1536 12 slices_S512x2048_o0_1536_S512x128 inb_S16x128x128_S1x128x128_12_0_0 rfl y k j r (by simp at h0 y0_lt; omega) h1 h2
  · exact slot (k0_pay2 x0 x1) keys 1408 11 slices_S512x2048_o0_1408_S512x128 inb_S16x128x128_S1x128x128_11_0_0 rfl y k j r (by simp at h0 y0_lt; omega) h1 h2
  · exact slot (k0_pay2 x0 x1) keys 1280 10 slices_S512x2048_o0_1280_S512x128 inb_S16x128x128_S1x128x128_10_0_0 rfl y k j r (by simp at h0 y0_lt; omega) h1 h2
  · exact slot (k0_pay2 x0 x1) keys 1152 9 slices_S512x2048_o0_1152_S512x128 inb_S16x128x128_S1x128x128_9_0_0 rfl y k j r (by simp at h0 y0_lt; omega) h1 h2
  · exact slot (k0_pay2 x0 x1) keys 1024 8 slices_S512x2048_o0_1024_S512x128 inb_S16x128x128_S1x128x128_8_0_0 rfl y k j r (by simp at h0 y0_lt; omega) h1 h2
  · exact slot (k0_pay2 x0 x1) keys 896 7 slices_S512x2048_o0_896_S512x128 inb_S16x128x128_S1x128x128_7_0_0 rfl y k j r (by simp at h0 y0_lt; omega) h1 h2
  · exact slot (k0_pay2 x0 x1) keys 768 6 slices_S512x2048_o0_768_S512x128 inb_S16x128x128_S1x128x128_6_0_0 rfl y k j r (by simp at h0 y0_lt; omega) h1 h2
  · exact slot (k0_pay2 x0 x1) keys 640 5 slices_S512x2048_o0_640_S512x128 inb_S16x128x128_S1x128x128_5_0_0 rfl y k j r (by simp at h0 y0_lt; omega) h1 h2
  · exact slot (k0_pay2 x0 x1) keys 512 4 slices_S512x2048_o0_512_S512x128 inb_S16x128x128_S1x128x128_4_0_0 rfl y k j r (by simp at h0 y0_lt; omega) h1 h2
  · exact slot (k0_pay2 x0 x1) keys 384 3 slices_S512x2048_o0_384_S512x128 inb_S16x128x128_S1x128x128_3_0_0 rfl y k j r (by simp at h0 y0_lt; omega) h1 h2
  · exact slot (k0_pay2 x0 x1) keys 256 2 slices_S512x2048_o0_256_S512x128 inb_S16x128x128_S1x128x128_2_0_0 rfl y k j r (by simp at h0 y0_lt; omega) h1 h2
  · exact slot (k0_pay2 x0 x1) keys 128 1 slices_S512x2048_o0_128_S512x128 inb_S16x128x128_S1x128x128_1_0_0 rfl y k j r (by simp at h0 y0_lt; omega) h1 h2
  · exact slot (k0_pay2 x0 x1) keys 0 0 slices_S512x2048_o0_0_S512x128 inb_S16x128x128_S1x128x128_0_0_0 rfl y k j r (by simp at h0 y0_lt; omega) h1 h2

/-- What the output array holds at an index. -/
def result (h : FVec Ideal S32768x1024 .bf16) (w : FVec Ideal S1024x2048 .f32) (keys : FVec Ideal S8x2x128x128 .f32) : FVec Ideal S16x128x32768 .f32 := fun i =>
  score (fun z => h (ix2 (i 2) z)) (fun z q => w (ix2 z q))
    (fun x => keys (ix4 ⟨(i 0).val / 2, by have := (show (i 0).val < 16 from (i 0).isLt); omega⟩ ⟨(i 0).val % 2, by omega⟩ (i 1) x)) (i 0)

theorem result_at (h : FVec Ideal S32768x1024 .bf16) (w : FVec Ideal S1024x2048 .f32) (keys : FVec Ideal S8x2x128x128 .f32) (i : S16x128x32768.Idx)
    (k : Fin 16) (j : Fin 128) (r : Fin 32768) (h0 : (i 0).val = k.val) (h1 : (i 1).val = j.val) (h2 : (i 2).val = r.val) :
    result h w keys i = score (fun z => h (ix2 r z)) (fun z q => w (ix2 z q))
      (fun x => keys (ix4 ⟨k / 2, by have := k.isLt; omega⟩ ⟨k % 2, by omega⟩ j x)) k := by
  idx_vars i
  obtain rfl : i0 = k := Fin.ext h0
  obtain rfl : i1 = j := Fin.ext h1
  obtain rfl : i2 = r := Fin.ext h2
  rfl

variable (m : (ℓ : Loc nD τ sig) → Buf (Elt Ideal) ℓ) (c : Dev nD)

theorem rows (t : Fin cfg0.N) (r : Fin 512) (x : Fin 1024) : iblk m c 0 t (ix2 r x)
    = m ((c : Thread nD τ).loc main_arg0) (ix2 ⟨t.val * 512 + r.val, by have := (show t.val < 64 from t.isLt); have := r.isLt; omega⟩ x) := by
  blk_ext [iblk, V, idx t]

theorem weights (t : Fin cfg0.N) (z : Fin 1024) (q : Fin 2048) : iblk m c 1 t (ix2 z q) = m ((c : Thread nD τ).loc main_arg1) (ix2 z q) := by
  blk_simp [iblk, idx t]
  entry_read
  pointwise
  blk_ext [idx t]

theorem tables (t : Fin cfg0.N) (k : Fin 16) (j x : Fin 128) : iblk m c 2 t (ix3 k j x)
    = m ((c : Thread nD τ).loc main_arg2) (ix4 ⟨k / 2, by have := k.isLt; omega⟩ ⟨k % 2, by omega⟩ j x) := by
  blk_simp [iblk, idx t]
  entry_read
  pointwise
  blk_ext [idx t]

/-- The whole array after the run. -/
theorem final : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  rw [block_apply]
  have ht : t.val < 64 := t.isLt
  have h2 := y2.isLt
  simp only [rows, weights, tables]
  refine (result_at _ _ _ _ y0 y1 ⟨t.val * 512 + y2.val, by omega⟩ ?_ ?_ ?_).symm
  · blk_simp [idx t]
  · blk_simp [idx t]
  · blk_simp [idx t]

/-- The reference's term is the same array. -/
theorem ref_eq (h : FVec Ideal S32768x1024 .bf16) (w : FVec Ideal S1024x2048 .f32) (keys : FVec Ideal S8x2x128x128 .f32) :
    Cert.Reference4Ideal.Value.ref h w keys = result h w keys := by
  funext i
  idx_vars i
  pointwise [Cert.Reference4Ideal.Value.ref]
  simp only [Cert.Reference4Ideal.Value.refQuery_apply]
  rw [result_at h w keys _ i0 i1 i2 rfl rfl rfl]
  unfold score
  refine Finset.sum_congr rfl fun x _ => congrArg _ (Finset.sum_congr rfl fun z _ => ?_)
  have e : (⟨i0.val / 2 * 256 + i0.val % 2 * 128 + x.val, by have := i0.isLt; have := x.isLt; omega⟩ : Fin 2048)
      = ⟨i0.val * 128 + x.val, by have := i0.isLt; have := x.isLt; omega⟩ := Fin.ext (by show i0.val / 2 * 256 + i0.val % 2 * 128 + x.val = i0.val * 128 + x.val; omega)
  exact congrArg (fun q => h (ix2 i2 z) * w (ix2 z q)) e

theorem algebraic : Cert.algebraic_Kernel4Ideal_Reference4Ideal := fun m g m' g' _ hagree => by
  refine ⟨fun c => result (m ((c.tc : Thread nD τ).loc main_arg0)) (m ((c.tc : Thread nD τ).loc main_arg1)) (m ((c.tc : Thread nD τ).loc main_arg2)), ?_, ?_⟩
  · exact (θ_run Cert.Kernel4Ideal.defs _ _).mono (fun r h c => ⟨(h c).1.trans (final m c), (h c).2⟩) (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    rw [(hagree c).1, (hagree c).2.1, (hagree c).2.2]
    exact ref_eq _ _ _

end Cert.Kernel4Ideal.Scores

end
-- ==== Proof.GateValue.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

/-! # The gate projection's output array

Grid point `t` is column block `t / 64` and row block `t % 64`; each block is the whole product over the 1024 features. -/

namespace Cert.Reference5Ideal.Value

open Cert.Reference5Ideal Cert.Reference5Ideal.Gen Idealize.ShloMosaic

/-- The reference's result. -/
def ref (h : FVec Ideal S32768x1024 .bf16) (w : FVec Ideal S1024x11328 .f32) : FVec Ideal S32768x2048 .f32 :=
  extractStridedSlice S32768x2048 ![0, 9280] (Host.dotGeneral dot_S32768x1024_S1024x11328_S32768x11328_1_0_0_1_n_n none (extf .f32 h bitsLt_bf16_f32) w)
    slices_S32768x11328_S32768x2048_0_9280

end Cert.Reference5Ideal.Value

namespace Cert.Kernel5Ideal.Gate

open Idealize.ShloMosaic Idealize.ShloMosaic.TcCoe Idealize.SL.Sem
open Cert.Kernel5Ideal.Gen

theorem idx : ∀ t : Fin cfg0.N, win0_0.index t = ![t.val % 64, 0] ∧ win0_1.index t = ![0, t.val / 64]
    ∧ win0_2.index t = ![t.val % 64, t.val / 64] :=
  (by decide +kernel : ∀ t : Fin grid0.N, _)

/-- The product at an index: the weights' gate columns start at 9280. -/
def result (h : FVec Ideal S32768x1024 .bf16) (w : FVec Ideal S1024x11328 .f32) : FVec Ideal S32768x2048 .f32 := fun i =>
  ∑ x : Fin 1024, h (ix2 (i 0) x) * w (ix2 x ⟨9280 + (i 1).val, by have := (i 1).isLt; simp at this; omega⟩)

theorem result_at (h : FVec Ideal S32768x1024 .bf16) (w : FVec Ideal S1024x11328 .f32) (j : S32768x2048.Idx) (r : Fin 32768) (e : Fin 2048)
    (h0 : (j 0).val = r.val) (h1 : (j 1).val = e.val) :
    result h w j = ∑ x : Fin 1024, h (ix2 r x) * w (ix2 x ⟨9280 + e.val, by have := e.isLt; omega⟩) := by
  idx_vars j
  obtain rfl : j0 = r := Fin.ext h0
  obtain rfl : j1 = e := Fin.ext h1
  rfl

theorem block_apply (x0 : Vec Ideal S512x1024 .bf16) (x1 : Vec Ideal S1024x1024 .bf16) (r : Fin 512) (e : Fin 1024) :
    out0_2 x0 x1 (ix2 r e) = ∑ x : Fin 1024, x0 (ix2 r x) * x1 (ix2 x e) := by
  rw [out0_2, View.canon_unit_zero (by decide), View.ld_unit_zero (by decide), View.ld_unit_zero (by decide)]
  pointwise [k0_pay1]

variable (m : (ℓ : Loc nD τ sig) → Buf (Elt Ideal) ℓ) (c : Dev nD)

theorem rows (t : Fin cfg0.N) (r : Fin 512) (x : Fin 1024) : iblk m c 0 t (ix2 r x)
    = m ((c : Thread nD τ).loc main_arg0) (ix2 ⟨t.val % 64 * 512 + r.val, by have := r.isLt; omega⟩ x) := by
  blk_ext [iblk, V, idx t]

theorem cols (t : Fin cfg0.N) (x : Fin 1024) (e : Fin 1024) : iblk m c 1 t (ix2 x e)
    = m ((c : Thread nD τ).loc main_arg1) (ix2 x ⟨9280 + (t.val / 64 * 1024 + e.val), by have := (show t.val < 128 from t.isLt); have := e.isLt; omega⟩) := by
  blk_simp [iblk, idx t]
  entry_read
  pointwise
  blk_ext [idx t]

/-- The whole array after the run. -/
theorem final : (dats m 0 c).arrAt 2 cfg0.N = result (m ((c : Thread nD τ).loc main_arg0)) (m ((c : Thread nD τ).loc main_arg1)) := by
  refine (dats m 0 c).arrAt_eq_of_covers 2 _ (by decide +kernel) fun t _ y => ?_
  blk_simp
  rw [after0_2]
  idx_vars y
  rw [block_apply]
  have ht : t.val < 128 := t.isLt
  have h0 := y0.isLt
  have h1 := y1.isLt
  simp only [rows, cols]
  refine (result_at _ _ _ ⟨t.val % 64 * 512 + y0.val, by omega⟩ ⟨t.val / 64 * 1024 + y1.val, by omega⟩ ?_ ?_).symm
  · blk_simp [idx t]
  · blk_simp [idx t]

/-- The reference's term is the same array. -/
theorem ref_eq (h : FVec Ideal S32768x1024 .bf16) (w : FVec Ideal S1024x11328 .f32) : Cert.Reference5Ideal.Value.ref h w = result h w := by
  funext i
  idx_vars i
  pointwise [Cert.Reference5Ideal.Value.ref, result]

theorem algebraic : Cert.algebraic_Kernel5Ideal_Reference5Ideal := fun m g m' g' _ hagree => by
  refine ⟨fun c => result (m ((c.tc : Thread nD τ).loc main_arg0)) (m ((c.tc : Thread nD τ).loc main_arg1)), ?_, ?_⟩
  · exact (θ_run Cert.Kernel5Ideal.defs _ _).mono (fun r h c => ⟨(h c).1.trans (final m c), (h c).2⟩) (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    rw [(hagree c).1, (hagree c).2]
    exact ref_eq _ _

end Cert.Kernel5Ideal.Gate

end
-- ==== Proof.StepValue.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

/-! # The step projection's output array

Grid point `t` is row block `t`; each block is the whole product over the 1024 features. -/

namespace Cert.Reference6Ideal.Value

open Cert.Reference6Ideal Cert.Reference6Ideal.Gen Idealize.ShloMosaic

/-- The reference's result. -/
def ref (h : FVec Ideal S32768x1024 .bf16) (w : FVec Ideal S1024x11328 .f32) : FVec Ideal S32768x64 .f32 :=
  extractStridedSlice S32768x64 ![0, 9216] (Host.dotGeneral dot_S32768x1024_S1024x11328_S32768x11328_1_0_0_1_n_n none (extf .f32 h bitsLt_bf16_f32) w)
    slices_S32768x11328_S32768x64_0_9216

end Cert.Reference6Ideal.Value

namespace Cert.Kernel6Ideal.Steps

open Idealize.ShloMosaic Idealize.ShloMosaic.TcCoe Idealize.SL.Sem
open Cert.Kernel6Ideal.Gen

theorem idx : ∀ t : Fin cfg0.N, win0_0.index t = ![t.val, 0] ∧ win0_1.index t = ![0, 0]
    ∧ win0_2.index t = ![t.val, 0] :=
  (by decide +kernel : ∀ t : Fin grid0.N, _)

/-- The product at an index: the weights' dt columns start at 9216. -/
def result (h : FVec Ideal S32768x1024 .bf16) (w : FVec Ideal S1024x11328 .f32) : FVec Ideal S32768x64 .f32 := fun i =>
  ∑ x : Fin 1024, h (ix2 (i 0) x) * w (ix2 x ⟨9216 + (i 1).val, by have := (i 1).isLt; simp at this; omega⟩)

theorem result_at (h : FVec Ideal S32768x1024 .bf16) (w : FVec Ideal S1024x11328 .f32) (j : S32768x64.Idx) (r : Fin 32768) (e : Fin 64)
    (h0 : (j 0).val = r.val) (h1 : (j 1).val = e.val) :
    result h w j = ∑ x : Fin 1024, h (ix2 r x) * w (ix2 x ⟨9216 + e.val, by have := e.isLt; omega⟩) := by
  idx_vars j
  obtain rfl : j0 = r := Fin.ext h0
  obtain rfl : j1 = e := Fin.ext h1
  rfl

theorem block_apply (x0 : Vec Ideal S512x1024 .bf16) (x1 : Vec Ideal S1024x64 .bf16) (r : Fin 512) (e : Fin 64) :
    out0_2 x0 x1 (ix2 r e) = ∑ x : Fin 1024, x0 (ix2 r x) * x1 (ix2 x e) := by
  rw [out0_2, View.canon_unit_zero (by decide), View.ld_unit_zero (by decide), View.ld_unit_zero (by decide)]
  pointwise [k0_pay1]

variable (m : (ℓ : Loc nD τ sig) → Buf (Elt Ideal) ℓ) (c : Dev nD)

theorem rows (t : Fin cfg0.N) (r : Fin 512) (x : Fin 1024) : iblk m c 0 t (ix2 r x)
    = m ((c : Thread nD τ).loc main_arg0) (ix2 ⟨t.val * 512 + r.val, by have := (show t.val < 64 from t.isLt); have := r.isLt; omega⟩ x) := by
  blk_ext [iblk, V, idx t]

theorem cols (t : Fin cfg0.N) (x : Fin 1024) (e : Fin 64) : iblk m c 1 t (ix2 x e)
    = m ((c : Thread nD τ).loc main_arg1) (ix2 x ⟨9216 + (e.val), by have := (show t.val < 64 from t.isLt); have := e.isLt; omega⟩) := by
  blk_simp [iblk, idx t]
  entry_read
  pointwise
  blk_ext [idx t]

/-- The whole array after the run. -/
theorem final : (dats m 0 c).arrAt 2 cfg0.N = result (m ((c : Thread nD τ).loc main_arg0)) (m ((c : Thread nD τ).loc main_arg1)) := by
  refine (dats m 0 c).arrAt_eq_of_covers 2 _ (by decide +kernel) fun t _ y => ?_
  blk_simp
  rw [after0_2]
  idx_vars y
  rw [block_apply]
  have ht : t.val < 64 := t.isLt
  have h0 := y0.isLt
  have h1 := y1.isLt
  simp only [rows, cols]
  refine (result_at _ _ _ ⟨t.val * 512 + y0.val, by omega⟩ y1 ?_ ?_).symm
  · blk_simp [idx t]
  · blk_simp [idx t]

/-- The reference's term is the same array. -/
theorem ref_eq (h : FVec Ideal S32768x1024 .bf16) (w : FVec Ideal S1024x11328 .f32) : Cert.Reference6Ideal.Value.ref h w = result h w := by
  funext i
  idx_vars i
  pointwise [Cert.Reference6Ideal.Value.ref, result]

theorem algebraic : Cert.algebraic_Kernel6Ideal_Reference6Ideal := fun m g m' g' _ hagree => by
  refine ⟨fun c => result (m ((c.tc : Thread nD τ).loc main_arg0)) (m ((c.tc : Thread nD τ).loc main_arg1)), ?_, ?_⟩
  · exact (θ_run Cert.Kernel6Ideal.defs _ _).mono (fun r h c => ⟨(h c).1.trans (final m c), (h c).2⟩) (Cert.Kernel6Ideal.Value.run_blocks (F := Ideal) m g)
  · refine (θ_run Cert.Reference6Ideal.defs _ _).mono (fun r h c => ⟨(h c).1.trans ?_, (h c).2⟩) (Cert.Reference6Ideal.Value.run (F := Ideal) m' g')
    rw [(hagree c).1, (hagree c).2]
    exact ref_eq _ _

end Cert.Kernel6Ideal.Steps

end
-- ==== Proof.NormValue.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

/-!
# The final norm
-/

@[expose] public section

set_option maxRecDepth 16384

noncomputable section

namespace Cert.Reference7Ideal.Value

open Cert.Reference7Ideal Cert.Reference7Ideal.Gen Idealize.ShloMosaic

/-- The reference's result. -/
def ref (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf
      (Host.divf (broadcastInDim S32768x1 ![0] bcast_S32768_S32768x1_0
          (Host.reduceAdd (mulf x x) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

end Cert.Reference7Ideal.Value

namespace Cert.Kernel7Ideal.Norm

open Idealize.ShloMosaic Idealize.ShloMosaic.TcCoe Idealize.SL.Sem
open Cert.Kernel7Ideal.Gen

theorem idx : ∀ t : Fin cfg0.N, win0_0.index t = ![t.val, 0] ∧ win0_1.index t = ![0, 0] ∧ win0_2.index t = ![t.val, 0] :=
  (by decide +kernel : ∀ t : Fin grid0.N, _)

/-- Entry `n` of a row normed and scaled. -/
def row (x g : Fin 1024 → EReal) (n : Fin 1024) : EReal :=
  x n * Ideal.rsqrt (Ideal.div (∑ k, x k * x k) (Ideal.ofBits .f32 0x44800000#32) + Ideal.ofBits .f32 0x358637BD#32) * g n

/-- The whole result. -/
def result (x : FVec Ideal S32768x1024 .f32) (g : FVec Ideal S1024 .f32) : FVec Ideal S32768x1024 .f32 := fun i =>
  row (fun k => x (ix2 (i 0) k)) (fun k => g (ix1 k)) (i 1)

theorem result_at (x : FVec Ideal S32768x1024 .f32) (g : FVec Ideal S1024 .f32) (j : S32768x1024.Idx) (r : Fin 32768) (e : Fin 1024)
    (h0 : (j 0).val = r.val) (h1 : (j 1).val = e.val) :
    result x g j = row (fun k => x (ix2 r k)) (fun k => g (ix1 k)) e := by
  idx_vars j
  obtain rfl : j0 = r := Fin.ext h0
  obtain rfl : j1 = e := Fin.ext h1
  rfl

theorem block_apply (x0 : Vec Ideal S512x1024 .f32) (x1 : Vec Ideal S1x1024 .f32) (r : Fin 512) (e : Fin 1024) :
    out0_2 x0 x1 (ix2 r e) = row (fun k => x0 (ix2 r k)) (fun k => x1 (ix2 0 k)) e := by
  rw [out0_2, View.canon_unit_zero (by decide), View.ld_unit_zero (by decide), View.ld_unit_zero (by decide)]
  pointwise [k0_pay1, row]

variable (m : (ℓ : Loc nD τ sig) → Buf (Elt Ideal) ℓ) (c : Dev nD)

theorem rows (t : Fin cfg0.N) (r : Fin 512) (x : Fin 1024) : iblk m c 0 t (ix2 r x)
    = m ((c : Thread nD τ).loc main_arg0) (ix2 ⟨t.val * 512 + r.val, by have := (show t.val < 64 from t.isLt); omega⟩ x) := by
  blk_ext [iblk, V, idx t]

theorem gain (t : Fin cfg0.N) (x : Fin 1024) : iblk m c 1 t (ix2 0 x) = m ((c : Thread nD τ).loc main_arg1) (ix1 x) := by
  blk_simp [iblk, idx t]
  entry_read
  pointwise
  blk_ext [idx t]

theorem final : (dats m 0 c).arrAt 2 cfg0.N = result (m ((c : Thread nD τ).loc main_arg0)) (m ((c : Thread nD τ).loc main_arg1)) := by
  refine (dats m 0 c).arrAt_eq_of_covers 2 _ (by decide +kernel) fun t _ y => ?_
  blk_simp
  rw [after0_2]
  idx_vars y
  rw [block_apply]
  have ht : t.val < 64 := t.isLt
  simp only [rows, gain]
  refine (result_at _ _ _ ⟨t.val * 512 + y0.val, by omega⟩ y1 ?_ ?_).symm
  · blk_simp [idx t]
  · blk_simp [idx t]

theorem ref_eq (x : FVec Ideal S32768x1024 .f32) (g : FVec Ideal S1024 .f32) : Cert.Reference7Ideal.Value.ref x g = result x g := by
  funext i
  idx_vars i
  pointwise [Cert.Reference7Ideal.Value.ref, result, row]

/-- Every run of the kernel and of the reference on the same arguments ends with the same result. -/
theorem algebraic : Cert.algebraic_Kernel7Ideal_Reference7Ideal := fun m g m' g' _ hagree => by
  refine ⟨fun c => result (m ((c.tc : Thread nD τ).loc main_arg0)) (m ((c.tc : Thread nD τ).loc main_arg1)), ?_, ?_⟩
  · exact (θ_run Cert.Kernel7Ideal.defs _ _).mono (fun r h c => ⟨(h c).1.trans (final m c), (h c).2⟩) (Cert.Kernel7Ideal.Value.run_blocks (F := Ideal) m g)
  · refine (θ_run Cert.Reference7Ideal.defs _ _).mono (fun r h c => ⟨(h c).1.trans ?_, (h c).2⟩) (Cert.Reference7Ideal.Value.run (F := Ideal) m' g')
    rw [(hagree c).1, (hagree c).2]
    exact ref_eq _ _

end Cert.Kernel7Ideal.Norm

end
-- ==== Proof.InnerNorm.lean ====
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

/-!
# The norms of a layer
-/

@[expose] public section

set_option maxRecDepth 16384

noncomputable section

namespace Cert.Reference8Ideal.Value

open Cert.Reference8Ideal Cert.Reference8Ideal.Gen Idealize.ShloMosaic

/-- The reference's result. -/
def ref (x : FVec Ideal S32768x1024 .f32) (g : FVec Ideal S1024 .f32) : FVec Ideal S32768x1024 .bf16 :=
  truncf .bf16 (mulf (mulf x (broadcastInDim S32768x1024 ![0, 1] bcast_S32768x1_S32768x1024_0_1 (Host.rsqrt (addf
      (Host.divf (broadcastInDim S32768x1 ![0] bcast_S32768_S32768x1_0
          (Host.reduceAdd (mulf x x) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))) bitsLt_bf16_f32

end Cert.Reference8Ideal.Value

namespace Cert.Kernel8Ideal.Norm

open Idealize.ShloMosaic Idealize.ShloMosaic.TcCoe Idealize.SL.Sem
open Cert.Kernel8Ideal.Gen

theorem idx : ∀ t : Fin cfg0.N, win0_0.index t = ![t.val, 0] ∧ win0_1.index t = ![0, 0] ∧ win0_2.index t = ![t.val, 0] :=
  (by decide +kernel : ∀ t : Fin grid0.N, _)

/-- Entry `n` of a row normed and scaled. -/
def row (x g : Fin 1024 → EReal) (n : Fin 1024) : EReal :=
  x n * Ideal.rsqrt (Ideal.div (∑ k, x k * x k) (Ideal.ofBits .f32 0x44800000#32) + Ideal.ofBits .f32 0x358637BD#32) * g n

/-- The whole result. -/
def result (x : FVec Ideal S32768x1024 .f32) (g : FVec Ideal S1024 .f32) : FVec Ideal S32768x1024 .bf16 := fun i =>
  row (fun k => x (ix2 (i 0) k)) (fun k => g (ix1 k)) (i 1)

theorem result_at (x : FVec Ideal S32768x1024 .f32) (g : FVec Ideal S1024 .f32) (j : S32768x1024.Idx) (r : Fin 32768) (e : Fin 1024)
    (h0 : (j 0).val = r.val) (h1 : (j 1).val = e.val) :
    result x g j = row (fun k => x (ix2 r k)) (fun k => g (ix1 k)) e := by
  idx_vars j
  obtain rfl : j0 = r := Fin.ext h0
  obtain rfl : j1 = e := Fin.ext h1
  rfl

theorem block_apply (x0 : Vec Ideal S512x1024 .f32) (x1 : Vec Ideal S1x1024 .f32) (r : Fin 512) (e : Fin 1024) :
    out0_2 x0 x1 (ix2 r e) = row (fun k => x0 (ix2 r k)) (fun k => x1 (ix2 0 k)) e := by
  rw [out0_2, View.canon_unit_zero (by decide), View.ld_unit_zero (by decide), View.ld_unit_zero (by decide)]
  pointwise [k0_pay1, row]

variable (m : (ℓ : Loc nD τ sig) → Buf (Elt Ideal) ℓ) (c : Dev nD)

theorem rows (t : Fin cfg0.N) (r : Fin 512) (x : Fin 1024) : iblk m c 0 t (ix2 r x)
    = m ((c : Thread nD τ).loc main_arg0) (ix2 ⟨t.val * 512 + r.val, by have := (show t.val < 64 from t.isLt); omega⟩ x) := by
  blk_ext [iblk, V, idx t]

theorem gain (t : Fin cfg0.N) (x : Fin 1024) : iblk m c 1 t (ix2 0 x) = m ((c : Thread nD τ).loc main_arg1) (ix1 x) := by
  blk_simp [iblk, idx t]
  entry_read
  pointwise
  blk_ext [idx t]

theorem final : (dats m 0 c).arrAt 2 cfg0.N = result (m ((c : Thread nD τ).loc main_arg0)) (m ((c : Thread nD τ).loc main_arg1)) := by
  refine (dats m 0 c).arrAt_eq_of_covers 2 _ (by decide +kernel) fun t _ y => ?_
  blk_simp
  rw [after0_2]
  idx_vars y
  rw [block_apply]
  have ht : t.val < 64 := t.isLt
  simp only [rows, gain]
  refine (result_at _ _ _ ⟨t.val * 512 + y0.val, by omega⟩ y1 ?_ ?_).symm
  · blk_simp [idx t]
  · blk_simp [idx t]

theorem ref_eq (x : FVec Ideal S32768x1024 .f32) (g : FVec Ideal S1024 .f32) : Cert.Reference8Ideal.Value.ref x g = result x g := by
  funext i
  idx_vars i
  pointwise [Cert.Reference8Ideal.Value.ref, result, row]

/-- Every run of the kernel and of the reference on the same arguments ends with the same result. -/
theorem algebraic : Cert.algebraic_Kernel8Ideal_Reference8Ideal := fun m g m' g' _ hagree => by
  refine ⟨fun c => result (m ((c.tc : Thread nD τ).loc main_arg0)) (m ((c.tc : Thread nD τ).loc main_arg1)), ?_, ?_⟩
  · exact (θ_run Cert.Kernel8Ideal.defs _ _).mono (fun r h c => ⟨(h c).1.trans (final m c), (h c).2⟩) (Cert.Kernel8Ideal.Value.run_blocks (F := Ideal) m g)
  · refine (θ_run Cert.Reference8Ideal.defs _ _).mono (fun r h c => ⟨(h c).1.trans ?_, (h c).2⟩) (Cert.Reference8Ideal.Value.run (F := Ideal) m' g')
    rw [(hagree c).1, (hagree c).2]
    exact ref_eq _ _

end Cert.Kernel8Ideal.Norm

end
-- ==== Proof.ConvBlock.lean ====
module

public import proofs.«01_k».proof.Defs
public import proofs.«01_k».proof.Proof.Gen.Kernel9Ideal.Value
public import Idealize.ShloMosaic.Lib.Pipeline.ValueKit
public import Idealize.ShloMosaic.Lib.Pointwise

/-!
# The convolution: one block of the kernel

The block's rows stand between eight rows before and eight after; five shifted copies are weighted and added.
-/

@[expose] public section

set_option maxRecDepth 16384

noncomputable section

namespace Cert.Conv

open Idealize.ShloMosaic

/-- Five neighbours weighted, the bias, and silu. -/
def taps (e w : Fin 5 → EReal) (b : EReal) : EReal :=
  let a := b + e 0 * w 0 + e 1 * w 1 + e 2 * w 2 + e 3 * w 3 + e 4 * w 4
  a * Ideal.logistic a

end Cert.Conv

namespace Cert.Kernel9Ideal.Conv

open Idealize.ShloMosaic Idealize.ShloMosaic.TcCoe Idealize.SL.Sem
open Cert.Kernel9Ideal.Gen

/-- Row `q` of the block with its eight rows before and after. -/
def wide (i : grid0.Coords) (p : Vec Ideal S8x512 .bf16) (u : Vec Ideal S512x512 .bf16) (n : Vec Ideal S8x512 .bf16) (q : Fin 528) (e : Fin 512) : EReal :=
  if h : q.val < 8 then (if 0 < (i 1).val then p (ix2 ⟨q.val, h⟩ e) else 0)
  else if h' : q.val < 520 then u (ix2 ⟨q.val - 8, by omega⟩ e)
  else (if (i 1).val < 15 then n (ix2 ⟨q.val - 520, by omega⟩ e) else 0)

theorem first_iff : ∀ i : Fin 16, (Scalar.cmpi .sgt (BitVec.ofNat 32 i.val) 0#32 = 1#1) ↔ 0 < i.val := by decide

theorem last_iff : ∀ i : Fin 16, (Scalar.cmpi .slt (BitVec.ofNat 32 i.val) 15#32 = 1#1) ↔ i.val < 15 := by decide

theorem wide_apply (i : grid0.Coords) (p : Vec Ideal S8x512 .bf16) (n : Vec Ideal S8x512 .bf16) (u : Vec Ideal S512x512 .bf16) (q : Fin 528) (e : Fin 512) :
    k0_pay2 i p n u (ix2 q e) = wide i p u n q e := by
  pointwise [k0_pay2, wide]
  have hf : (Scalar.cmpi .sgt (BitVec.ofNat 32 (i 1).val) 0#32 = 1#1) ↔ 0 < (i 1).val := first_iff (i 1)
  have hl : (Scalar.cmpi .slt (BitVec.ofNat 32 (i 1).val) 15#32 = 1#1) ↔ (i 1).val < 15 := last_iff (i 1)
  have hq := q.isLt
  by_cases h : q.val < 8
  · rw [dif_pos h, dif_pos h]
    exact if_congr hf rfl rfl
  · rw [dif_neg h, dif_neg h]
    by_cases h' : q.val < 520
    · rw [dif_pos (by omega), dif_pos h']
    · rw [dif_neg (by omega), dif_neg h']
      have hn : (⟨q.val - 8 - 512, by omega⟩ : Fin 8) = ⟨q.val - 520, by omega⟩ := Fin.ext (by simp only; omega)
      rw [hn]
      exact if_congr hl rfl rfl

theorem block_apply (i : grid0.Coords) (x0 : Vec Ideal S8x512 .bf16) (x1 : Vec Ideal S512x512 .bf16) (x2 : Vec Ideal S8x512 .bf16) (x3 : Vec Ideal S5x512 .f32)
    (x4 : Vec Ideal S1x512 .f32) (r : Fin 512) (e : Fin 512) :
    out0_5 i x0 x1 x2 x3 x4 (ix2 r e) = Cert.Conv.taps (fun k => wide i x0 x1 x2 ⟨6 + k.val + r.val, by omega⟩ e) (fun k => x3 (ix2 k e)) (x4 (ix2 0 e)) := by
  rw [out0_5, View.canon_unit_zero (by decide), View.ld_unit_zero (by decide), View.ld_unit_zero (by decide), View.ld_unit_zero (by decide), View.ld_unit_zero (by decide)]
  pointwise [k0_pay1, k0_pay3, k0_pay4, k0_pay5]
  simp only [wide_apply]
  rfl

end Cert.Kernel9Ideal.Conv

end
-- ==== Proof.ConvRef.lean ====
module

public import proofs.«01_k».proof.Defs
public import proofs.«01_k».proof.Proof.ConvBlock
public import proofs.«01_k».proof.Proof.Gen.Reference9Ideal.Run
public import Idealize.ShloMosaic.Lib.Pointwise

/-!
# The convolution: the reference

The padded sequence is read entry by entry.
-/

@[expose] public section

set_option maxRecDepth 16384

noncomputable section

namespace Cert.Reference9Ideal.Value

open Idealize.ShloMosaic Idealize.ShloMosaic.TcCoe Idealize.SL.Sem
open Cert.Reference9Ideal Cert.Reference9Ideal.Gen

/-- The logistic function written out. -/
def refSigmoid (x : FVec Ideal S4x8192x4096 .f32) : FVec Ideal S4x8192x4096 .f32 :=
  Host.divf (broadcastInDim S4x8192x4096 ![] bcast_S_S4x8192x4096 (constant S_ .f32 0x3F800000#32))
    (addf (broadcastInDim S4x8192x4096 ![] bcast_S_S4x8192x4096 (constant S_ .f32 0x3F800000#32)) (Host.exp (Host.negf x)))

/-- The columns with two zeros before and after each sequence. -/
def refExt (p : FVec Ideal S32768x9216 .bf16) : FVec Ideal S4x8196x4096 .f32 :=
  pad S4x8196x4096 ![0, 2, 0] ![0, 2, 0] ![0, 0, 0]
    (shapeCast S4x8192x4096 (extf .f32 (extractStridedSlice S32768x4096 ![0, 4096] p slices_S32768x9216_S32768x4096_0_4096) bitsLt_bf16_f32)
      shapeCasts_S32768x4096_S4x8192x4096)
    (sitofp .f32 (constantI S_ 32 0#32)) pads_S4x8192x4096_S4x8196x4096_000_220_000 h_S_

/-- A weight at every entry. -/
def refW (w : FVec Ideal S4096 .f32) : FVec Ideal S4x8192x4096 .f32 :=
  broadcastInDim S4x8192x4096 ![0, 1, 2] bcast_S1x1x4096_S4x8192x4096_0_1_2 (broadcastInDim S1x1x4096 ![2] bcast_S4096_S1x1x4096_2 w)

/-- The weighted sum of the shifted sequences. -/
def refSum (x : FVec Ideal S4x8196x4096 .f32) (w : FVec Ideal S5x4096 .f32) (b : FVec Ideal S4096 .f32) : FVec Ideal S4x8192x4096 .f32 :=
  addf (addf (addf (addf (addf (refW b)
    (mulf (extractStridedSlice S4x8192x4096 ![0, 0, 0] x slices_S4x8196x4096_S4x8192x4096_0_0_0) (refW (shapeCast S4096 (extractStridedSlice S1x4096 ![0, 0] w slices_S5x4096_S1x4096_0_0) shapeCasts_S1x4096_S4096))))
    (mulf (extractStridedSlice S4x8192x4096 ![0, 1, 0] x slices_S4x8196x4096_S4x8192x4096_0_1_0) (refW (shapeCast S4096 (extractStridedSlice S1x4096 ![1, 0] w slices_S5x4096_S1x4096_1_0) shapeCasts_S1x4096_S4096))))
    (mulf (extractStridedSlice S4x8192x4096 ![0, 2, 0] x slices_S4x8196x4096_S4x8192x4096_0_2_0) (refW (shapeCast S4096 (extractStridedSlice S1x4096 ![2, 0] w slices_S5x4096_S1x4096_2_0) shapeCasts_S1x4096_S4096))))
    (mulf (extractStridedSlice S4x8192x4096 ![0, 3, 0] x slices_S4x8196x4096_S4x8192x4096_0_3_0) (refW (shapeCast S4096 (extractStridedSlice S1x4096 ![3, 0] w slices_S5x4096_S1x4096_3_0) shapeCasts_S1x4096_S4096))))
    (mulf (extractStridedSlice S4x8192x4096 ![0, 4, 0] x slices_S4x8196x4096_S4x8192x4096_0_4_0) (refW (shapeCast S4096 (extractStridedSlice S1x4096 ![4, 0] w slices_S5x4096_S1x4096_4_0) shapeCasts_S1x4096_S4096)))

/-- The reference's result. -/
def ref (p : FVec Ideal S32768x9216 .bf16) (w : FVec Ideal S5x4096 .f32) (b : FVec Ideal S4096 .f32) : FVec Ideal S32768x4096 .bf16 :=
  truncf .bf16 (shapeCast S32768x4096 (mulf (refSum (refExt p) w b) (refSigmoid (refSum (refExt p) w b))) shapeCasts_S4x8192x4096_S32768x4096) bitsLt_bf16_f32

theorem out_eq (m : (ℓ : Loc nD τ sig) → Buf (Elt Ideal) ℓ) (c : Dev nD) :
    res_out0 (F := Ideal) m c = ref (m ((c.tc : Thread nD τ).loc main_arg0)) (m ((c.tc : Thread nD τ).loc main_arg1)) (m ((c.tc : Thread nD τ).loc main_arg2)) := rfl

/-- Position `q` of sequence `s` with its two zeros at either end, column `n`. -/
def padded (p : FVec Ideal S32768x9216 .bf16) (s : Fin 4) (q : Fin 8196) (n : Fin 4096) : EReal :=
  if h : 2 ≤ q.val ∧ q.val < 8194 then p (ix2 ⟨s.val * 8192 + (q.val - 2), by omega⟩ ⟨4096 + n.val, by omega⟩) else 0

theorem refExt_apply (p : FVec Ideal S32768x9216 .bf16) (s : Fin 4) (q : Fin 8196) (n : Fin 4096) :
    refExt p (ix3 s q n) = padded p s q n := by
  pointwise [refExt, padded]
  by_cases h : 2 ≤ q.val ∧ q.val < 8194
  · rw [dif_pos h, dif_pos (by omega)]
  · rw [dif_neg h, dif_neg (by omega)]
    simp [FloatOps.sitofp]

theorem refSigmoid_apply (x : FVec Ideal S4x8192x4096 .f32) (s : Fin 4) (q : Fin 8192) (n : Fin 4096) :
    refSigmoid x (ix3 s q n) = Ideal.logistic (x (ix3 s q n)) := by
  pointwise [refSigmoid]
  rfl

theorem refSum_apply (x : FVec Ideal S4x8196x4096 .f32) (w : FVec Ideal S5x4096 .f32) (b : FVec Ideal S4096 .f32) (s : Fin 4) (q : Fin 8192) (n : Fin 4096) :
    refSum x w b (ix3 s q n) = b (ix1 n) + x (ix3 s ⟨q.val, by omega⟩ n) * w (ix2 0 n) + x (ix3 s ⟨1 + q.val, by omega⟩ n) * w (ix2 1 n)
      + x (ix3 s ⟨2 + q.val, by omega⟩ n) * w (ix2 2 n) + x (ix3 s ⟨3 + q.val, by omega⟩ n) * w (ix2 3 n)
      + x (ix3 s ⟨4 + q.val, by omega⟩ n) * w (ix2 4 n) := by
  pointwise [refSum, refW]

theorem ref_apply (p : FVec Ideal S32768x9216 .bf16) (w : FVec Ideal S5x4096 .f32) (b : FVec Ideal S4096 .f32) (r : Fin 32768) (n : Fin 4096) :
    ref p w b (ix2 r n) = Cert.Conv.taps (fun k => padded p ⟨r.val / 8192, by omega⟩ ⟨k.val + r.val % 8192, by omega⟩ n) (fun k => w (ix2 k n)) (b (ix1 n)) := by
  pointwise [ref]
  rw [refSigmoid_apply, refSum_apply]
  simp only [refExt_apply]
  simp only [Cert.Conv.taps, Fin.val_zero, Fin.val_one, Nat.zero_add]
  rfl

end Cert.Reference9Ideal.Value

end
-- ==== Proof.ConvValue.lean ====
module

public import proofs.«01_k».proof.Defs
public import proofs.«01_k».proof.Proof.ConvBlock
public import proofs.«01_k».proof.Proof.ConvRef

/-!
# The convolution: the whole array
-/

@[expose] public section

set_option maxRecDepth 16384

noncomputable section

namespace Cert.Kernel9Ideal.Conv

open Idealize.ShloMosaic Idealize.ShloMosaic.TcCoe Idealize.SL.Sem
open Cert.Kernel9Ideal.Gen
open Cert.Reference9Ideal.Value (padded)

theorem idx : ∀ t : Fin cfg0.N, win0_0.index t = ![t.val / 8 * 64 - 1, 8 + t.val % 8] ∧ win0_1.index t = ![t.val / 8, 8 + t.val % 8]
    ∧ win0_2.index t = ![min ((t.val / 8 + 1) * 64) 4095, 8 + t.val % 8] ∧ win0_3.index t = ![0, t.val % 8] ∧ win0_4.index t = ![0, t.val % 8]
    ∧ win0_5.index t = ![t.val / 8, t.val % 8] ∧ (grid0.coords t 1).val = t.val / 8 % 16 :=
  (by decide +kernel : ∀ t : Fin grid0.N, _)

/-- The whole result. -/
def result (p : FVec Ideal S32768x9216 .bf16) (w : FVec Ideal S5x4096 .f32) (b : FVec Ideal S4096 .f32) : FVec Ideal S32768x4096 .bf16 := fun i =>
  Cert.Conv.taps (fun k => padded p ⟨(i 0).val / 8192, by have := (show (i 0).val < 32768 from (i 0).isLt); omega⟩
    ⟨k.val + (i 0).val % 8192, by omega⟩ (i 1)) (fun k => w (ix2 k (i 1))) (b (ix1 (i 1)))

theorem result_at (p : FVec Ideal S32768x9216 .bf16) (w : FVec Ideal S5x4096 .f32) (b : FVec Ideal S4096 .f32) (j : S32768x4096.Idx) (r : Fin 32768) (e : Fin 4096)
    (h0 : (j 0).val = r.val) (h1 : (j 1).val = e.val) :
    result p w b j = Cert.Conv.taps (fun k => padded p ⟨r.val / 8192, by omega⟩ ⟨k.val + r.val % 8192, by omega⟩ e) (fun k => w (ix2 k e)) (b (ix1 e)) := by
  idx_vars j
  obtain rfl : j0 = r := Fin.ext h0
  obtain rfl : j1 = e := Fin.ext h1
  rfl

variable (m : (ℓ : Loc nD τ sig) → Buf (Elt Ideal) ℓ) (c : Dev nD)

theorem before (t : Fin cfg0.N) (h : 0 < t.val / 8) (r : Fin 8) (x : Fin 512) : iblk m c 0 t (ix2 r x)
    = m ((c : Thread nD τ).loc main_arg0) (ix2 ⟨t.val / 8 * 512 + r.val - 8, by have := (show t.val < 512 from t.isLt); omega⟩
        ⟨4096 + (t.val % 8 * 512 + x.val), by omega⟩) := by
  blk_ext [iblk, V, idx t]

theorem rows (t : Fin cfg0.N) (r : Fin 512) (x : Fin 512) : iblk m c 1 t (ix2 r x)
    = m ((c : Thread nD τ).loc main_arg0) (ix2 ⟨t.val / 8 * 512 + r.val, by have := (show t.val < 512 from t.isLt); omega⟩
        ⟨4096 + (t.val % 8 * 512 + x.val), by omega⟩) := by
  blk_ext [iblk, V, idx t]

theorem after (t : Fin cfg0.N) (h : t.val / 8 < 63) (r : Fin 8) (x : Fin 512) : iblk m c 2 t (ix2 r x)
    = m ((c : Thread nD τ).loc main_arg0) (ix2 ⟨(t.val / 8 + 1) * 512 + r.val, by omega⟩
        ⟨4096 + (t.val % 8 * 512 + x.val), by omega⟩) := by
  blk_ext [iblk, V, idx t]

theorem weights (t : Fin cfg0.N) (k : Fin 5) (x : Fin 512) : iblk m c 3 t (ix2 k x)
    = m ((c : Thread nD τ).loc main_arg1) (ix2 k ⟨t.val % 8 * 512 + x.val, by omega⟩) := by
  blk_ext [iblk, V, idx t]

theorem bias (t : Fin cfg0.N) (x : Fin 512) : iblk m c 4 t (ix2 0 x)
    = m ((c : Thread nD τ).loc main_arg2) (ix1 ⟨t.val % 8 * 512 + x.val, by omega⟩) := by
  blk_simp [iblk, idx t]
  entry_read
  pointwise
  blk_ext [idx t]

/-- A row of the widened block is a row of the padded sequence. -/
theorem wide_eq (t : Fin cfg0.N) (r : Fin 512) (k : Fin 5) (e : Fin 512) :
    wide (grid0.coords t) (iblk m c 0 t) (iblk m c 1 t) (iblk m c 2 t) ⟨6 + k.val + r.val, by omega⟩ e
      = padded (m ((c : Thread nD τ).loc main_arg0)) ⟨(t.val / 8 * 512 + r.val) / 8192, by have := (show t.val < 512 from t.isLt); omega⟩
        ⟨k.val + (t.val / 8 * 512 + r.val) % 8192, by omega⟩ ⟨t.val % 8 * 512 + e.val, by omega⟩ := by
  have ht : t.val < 512 := t.isLt
  have hc := (idx t).2.2.2.2.2.2
  unfold wide padded
  simp only [hc]
  by_cases h : 6 + k.val + r.val < 8
  · rw [dif_pos h]
    by_cases h1 : 0 < t.val / 8 % 16
    · rw [if_pos h1, dif_pos (by omega), before m c t (by omega)]
      congr 2
      exact Fin.ext (by simp only; omega)
    · rw [if_neg h1, dif_neg (by omega)]
  · rw [dif_neg h]
    by_cases h' : 6 + k.val + r.val < 520
    · rw [dif_pos h', dif_pos (by omega), rows]
      congr 2
      exact Fin.ext (by simp only; omega)
    · rw [dif_neg h']
      by_cases h1 : t.val / 8 % 16 < 15
      · rw [if_pos h1, dif_pos (by omega), after m c t (by omega)]
        congr 2
        exact Fin.ext (by simp only; omega)
      · rw [if_neg h1, dif_neg (by omega)]

theorem final : (dats m 0 c).arrAt 5 cfg0.N = result (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  idx_vars y
  rw [block_apply]
  have ht : t.val < 512 := t.isLt
  simp only [wide_eq, weights, bias]
  refine (result_at _ _ _ _ ⟨t.val / 8 * 512 + y0.val, by omega⟩ ⟨t.val % 8 * 512 + y1.val, by omega⟩ ?_ ?_).symm
  · blk_simp [idx t]
  · blk_simp [idx t]

theorem ref_eq (p : FVec Ideal S32768x9216 .bf16) (w : FVec Ideal S5x4096 .f32) (b : FVec Ideal S4096 .f32) :
    Cert.Reference9Ideal.Value.ref p w b = result p w b := by
  funext i
  idx_vars i
  rw [Cert.Reference9Ideal.Value.ref_apply]
  rfl

/-- Every run of the kernel and of the reference on the same arguments ends with the same result. -/
theorem algebraic : Cert.algebraic_Kernel9Ideal_Reference9Ideal := fun m g m' g' _ hagree => by
  refine ⟨fun c => result (m ((c.tc : Thread nD τ).loc main_arg0)) (m ((c.tc : Thread nD τ).loc main_arg1)) (m ((c.tc : Thread nD τ).loc main_arg2)), ?_, ?_⟩
  · exact (θ_run Cert.Kernel9Ideal.defs _ _).mono (fun r h c => ⟨(h c).1.trans (final m c), (h c).2⟩) (Cert.Kernel9Ideal.Value.run_blocks (F := Ideal) m g)
  · refine (θ_run Cert.Reference9Ideal.defs _ _).mono (fun r h c => ⟨(h c).1.trans ((Cert.Reference9Ideal.Value.out_eq m' c).trans ?_), (h c).2⟩) (Cert.Reference9Ideal.Value.run (F := Ideal) m' g')
    rw [(hagree c).1, (hagree c).2.1, (hagree c).2.2]
    exact ref_eq _ _ _

end Cert.Kernel9Ideal.Conv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.KernelFrame
public import proofs.«01_k».proof.Proof.Array
public import proofs.«01_k».proof.Proof.RefValue
public import proofs.«01_k».proof.Proof.Pre
public import proofs.«01_k».proof.Proof.RotaryValue
public import proofs.«01_k».proof.Proof.TailValue
public import proofs.«01_k».proof.Proof.ScoresValue
public import proofs.«01_k».proof.Proof.GateValue
public import proofs.«01_k».proof.Proof.StepValue
public import proofs.«01_k».proof.Proof.NormValue
public import proofs.«01_k».proof.Proof.InnerNorm
public import proofs.«01_k».proof.Proof.ConvValue
public import Idealize.ShloMosaic.Lib.Claim
public import Idealize.ShloMosaic.Adequacy
public import Idealize.ShloMosaic.Init

@[expose] public section

noncomputable section

/-! # The claims

The frames of the kernel and of the reference, and the equation of the kernel's and the reference's results over the extended
reals where the values and the coefficient's parameters are real. -/

namespace Cert.Proof

open Idealize.ShloMosaic Idealize.SL.Sem Cert.Attn

/-- The projection's numbers, by row and column. -/
def entry (X : FVec Ideal Cert.KernelIdeal.S32768x9216 .bf16) (r k : ℕ) : EReal :=
  if h : r < 32768 ∧ k < 9216 then X (ix2 ⟨r, h.1⟩ ⟨k, h.2⟩) else 0

theorem entry_eq (X : FVec Ideal Cert.KernelIdeal.S32768x9216 .bf16) (r : Fin 32768) (k : Fin 9216) : X (ix2 r k) = entry X r k := by
  rw [entry, dif_pos ⟨r.isLt, k.isLt⟩]

theorem entry_real (X : FVec Ideal Cert.KernelIdeal.S32768x9216 .bf16) (r : Fin 32768) (k : Fin 9216) (h : ∃ a : ℝ, X (ix2 r k) = (a : EReal)) :
    entry X r k = (((entry X r k).toReal : ℝ) : EReal) := by
  obtain ⟨a, ha⟩ := h
  rw [← entry_eq, ha, EReal.toReal_coe]

/-- The reference and the kernel's array are one function of the arguments. -/
theorem ref_eq (X : FVec Ideal Cert.KernelIdeal.S32768x9216 .bf16) (L : FVec Ideal Cert.KernelIdeal.S4x64 .f32) (g : FVec Ideal Cert.KernelIdeal.S128 .f32)
    (A : ℕ → ℕ → EReal) (hA : ∀ (r : Fin 32768) (k : Fin 9216), X (ix2 r k) = A r k)
    (hV : ∀ (r : Fin 32768) (k : Fin 9216), 8192 ≤ k.val → A r k = (((A r k).toReal : ℝ) : EReal))
    (hL : ∀ i, ∃ a : ℝ, L i = (a : EReal)) :
    Cert.ReferenceIdeal.Value.ref X L g = Cert.KernelIdeal.Run.result A L g := by
  obtain ⟨lam, hlam⟩ := Cert.ReferenceIdeal.Value.lam_real L hL
  have hco : Cert.KernelIdeal.Run.coeff L = (lam : EReal) := by
    rw [← hlam, Cert.ReferenceIdeal.Value.refLam_apply]; rfl
  funext j
  idx_vars j
  rw [Cert.ReferenceIdeal.Value.ref_apply X A hA hV L g lam hlam]
  unfold Cert.KernelIdeal.Run.result
  rw [hco]
  rfl

theorem frame_kernel : Cert.quiescent_Kernel := fun m g _ => Cert.Kernel.Run.frame m g

theorem frame_ideal : Cert.quiescent_KernelIdeal := fun m g _ => Cert.KernelIdeal.Run.frame m g

theorem frame_reference : Cert.quiescent_ReferenceIdeal := fun m g _ =>
  (θ_run Cert.ReferenceIdeal.defs _ _).mono (fun _ h => ⟨fun c => (h c).2, Idealize.ShloMosaic.sem_eq_zero_of_no_sems (by decide) _⟩) (Cert.ReferenceIdeal.Value.run (F := Ideal) m g)

theorem algebraic [hPre : Cert.Pre_finite_values.Facts] : Cert.algebraic_KernelIdeal_ReferenceIdeal_pre_finite_values := fun m g m' g' hpre hagree => by
  have hreal := fun c => Cert.Pre_finite_values.real_entries _ _ _ (hpre c)
  refine ⟨fun c => Cert.KernelIdeal.Run.result (entry (m ((c.tc : Thread Cert.KernelIdeal.nD Cert.KernelIdeal.τ).loc Cert.KernelIdeal.main_arg0)))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨?_, h.2 c⟩)
      (θ_run_and (Cert.KernelIdeal.Run.run (F := Ideal) m g) (Cert.KernelIdeal.Run.unchanged (F := Ideal) m g))
    exact ((h.1.1 c).1 5).trans (Cert.KernelIdeal.Run.final m c _ (fun r k => entry_eq _ r k) fun r k hk => entry_real _ r k ((hreal c).1 r k hk))
  · refine (θ_run Cert.ReferenceIdeal.defs _ _).mono (fun r h c => ⟨?_, (h c).2⟩) (Cert.ReferenceIdeal.Value.run (F := Ideal) m' g')
    refine (h c).1.trans ((Cert.ReferenceIdeal.Value.out_eq m' c).trans ?_)
    rw [(hagree c).1, (hagree c).2.1, (hagree c).2.2]
    exact ref_eq _ _ _ _ (fun r k => entry_eq _ r k) (fun r k hk => entry_real _ r k ((hreal c).1 r k hk)) (hreal c).2

theorem frame_reference2 : Cert.quiescent_Reference2Ideal := fun m g _ =>
  (θ_run Cert.Reference2Ideal.defs _ _).mono (fun _ h => ⟨fun c => (h c).2, Idealize.ShloMosaic.sem_eq_zero_of_no_sems (by decide) _⟩) (Cert.Reference2Ideal.Value.run (F := Ideal) m g)

theorem frame_reference3 : Cert.quiescent_Reference3Ideal := fun m g _ =>
  (θ_run Cert.Reference3Ideal.defs _ _).mono (fun _ h => ⟨fun c => (h c).2, Idealize.ShloMosaic.sem_eq_zero_of_no_sems (by decide) _⟩) (Cert.Reference3Ideal.Value.run (F := Ideal) m g)

theorem frame_reference4 : Cert.quiescent_Reference4Ideal := fun m g _ =>
  (θ_run Cert.Reference4Ideal.defs _ _).mono (fun _ h => ⟨fun c => (h c).2, Idealize.ShloMosaic.sem_eq_zero_of_no_sems (by decide) _⟩) (Cert.Reference4Ideal.Value.run (F := Ideal) m g)

theorem frame_reference5 : Cert.quiescent_Reference5Ideal := fun m g _ =>
  (θ_run Cert.Reference5Ideal.defs _ _).mono (fun _ h => ⟨fun c => (h c).2, Idealize.ShloMosaic.sem_eq_zero_of_no_sems (by decide) _⟩) (Cert.Reference5Ideal.Value.run (F := Ideal) m g)

theorem frame_reference6 : Cert.quiescent_Reference6Ideal := fun m g _ =>
  (θ_run Cert.Reference6Ideal.defs _ _).mono (fun _ h => ⟨fun c => (h c).2, Idealize.ShloMosaic.sem_eq_zero_of_no_sems (by decide) _⟩) (Cert.Reference6Ideal.Value.run (F := Ideal) m g)

theorem frame_reference7 : Cert.quiescent_Reference7Ideal := fun m g _ =>
  (θ_run Cert.Reference7Ideal.defs _ _).mono (fun _ h => ⟨fun c => (h c).2, Idealize.ShloMosaic.sem_eq_zero_of_no_sems (by decide) _⟩) (Cert.Reference7Ideal.Value.run (F := Ideal) m g)

theorem frame_reference8 : Cert.quiescent_Reference8Ideal := fun m g _ =>
  (θ_run Cert.Reference8Ideal.defs _ _).mono (fun _ h => ⟨fun c => (h c).2, Idealize.ShloMosaic.sem_eq_zero_of_no_sems (by decide) _⟩) (Cert.Reference8Ideal.Value.run (F := Ideal) m g)

theorem frame_reference9 : Cert.quiescent_Reference9Ideal := fun m g _ =>
  (θ_run Cert.Reference9Ideal.defs _ _).mono (fun _ h => ⟨fun c => (h c).2, Idealize.ShloMosaic.sem_eq_zero_of_no_sems (by decide) _⟩) (Cert.Reference9Ideal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.Pre_finite_values.facts,
    frame_kernel, frame_ideal, fun m g _ => frame_ideal m g trivial, frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    trivial, algebraic (hPre := Cert.Pre_finite_values.facts),
    trivial, Cert.Kernel2Ideal.Rotary.algebraic, trivial, Cert.Kernel3Ideal.Tail.algebraic,
    trivial, Cert.Kernel4Ideal.Scores.algebraic, trivial, Cert.Kernel5Ideal.Gate.algebraic,
    trivial, Cert.Kernel6Ideal.Steps.algebraic, trivial, Cert.Kernel7Ideal.Norm.algebraic,
    trivial, Cert.Kernel8Ideal.Norm.algebraic, trivial, Cert.Kernel9Ideal.Conv.algebraic⟩

end Cert.Proof

end
